-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S8 : Shape := ⟨1, ![8]⟩
abbrev S_ : Shape := ⟨0, ![]⟩
abbrev S4096x1024 : Shape := ⟨2, ![4096, 1024]⟩
abbrev S4096x512 : Shape := ⟨2, ![4096, 512]⟩
abbrev S1 : Shape := ⟨1, ![1]⟩
abbrev S14x512x512 : Shape := ⟨3, ![14, 512, 512]⟩
abbrev S16x512x512 : Shape := ⟨3, ![16, 512, 512]⟩
abbrev S8x128 : Shape := ⟨2, ![8, 128]⟩
abbrev S8x8x128 : Shape := ⟨3, ![8, 8, 128]⟩
abbrev S14 : Shape := ⟨1, ![14]⟩
abbrev S16 : Shape := ⟨1, ![16]⟩
abbrev S512x512 : Shape := ⟨2, ![512, 512]⟩
abbrev S1x512x512 : Shape := ⟨3, ![1, 512, 512]⟩
abbrev S1x1x1 : Shape := ⟨3, ![1, 1, 1]⟩
abbrev S1x8x128 : Shape := ⟨3, ![1, 8, 128]⟩
abbrev S1x8x8x128 : Shape := ⟨4, ![1, 8, 8, 128]⟩
abbrev S1x1x1x1 : Shape := ⟨4, ![1, 1, 1, 1]⟩

abbrev nBuf : Space → Nat
  | .hbm => 14
  | .vmem => 10
  | .smem => 1
  | _ => 0

abbrev bufTy : (tb : Table) → Fin (tcTables nBuf tb) → BufTy
  | .hbm, ⟨0, _⟩ => ⟨S512x4096, .bf16⟩
  | .hbm, ⟨1, _⟩ => ⟨S4096x8192, .bf16⟩
  | .hbm, ⟨2, _⟩ => ⟨S8, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S4096x1024, .bf16⟩
  | .local _ .vmem, ⟨0, _⟩ => ⟨S512x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x1024, .bf16⟩
  | .local _ .vmem, ⟨4, _⟩ => ⟨S4096x512, .bf16⟩
  | .local _ .vmem, ⟨5, _⟩ => ⟨S4096x512, .bf16⟩
  | .local _ .vmem, ⟨6, _⟩ => ⟨S14x512x512, .bf16⟩
  | .local _ .vmem, ⟨7, _⟩ => ⟨S16x512x512, .bf16⟩
  | .local _ .vmem, ⟨8, _⟩ => ⟨S8x128, .f32⟩
  | .local _ .vmem, ⟨9, _⟩ => ⟨S8x8x128, .f32⟩
  | .local _ .smem, ⟨0, _⟩ => ⟨S8, .i32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v9 : Ref sig .tc := ⟨.hbm, 13, rfl⟩
abbrev main_v8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 8
abbrev τ : Topo := Topo.v7x

variable {F : FTy → Type} [FloatOps F]

abbrev grid0 : Pipeline.Grid := ⟨1, ![17], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c15_i32 : BitVec 32 := 15#32
  let v0 : BitVec 32 := Scalar.minsi arg0 c15_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let v1 : BitVec 32 := Scalar.divsi v0 c2_i32
  let c1_i32 : BitVec 32 := 1#32
  let v16 : BitVec 32 := Scalar.subi v1 c1_i32
  let v17 : BitVec 32 := Scalar.select v15 v16 v1
  let v18 : Index := Scalar.indexCast v17
  ![v18.toNat]
def k0_cond1 (i : grid0.Coords) : BitVec 1 :=
  let arg0 : BitVec 32 := BitVec.ofNat 32 (i 0).val
  let c0_i32_0 : BitVec 32 := 0#32
  let v5 : BitVec 1 := Scalar.cmpi .eq arg0 c0_i32_0
  let v6 : BitVec 32 := Scalar.extui v5
  let c0_i32_1 : BitVec 32 := 0#32
  let v7 : BitVec 1 := Scalar.cmpi .ne v6 c0_i32_1
  v7

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v25 : BitVec 32 := Scalar.addi v2 c1_i32_10
  let c8_i32_11 : BitVec 32 := 8#32
  let v26 : BitVec 32 := Scalar.remsi v25 c8_i32_11
  let c1_i32_13 : BitVec 32 := 1#32
  let v27 : BitVec 32 := Scalar.muli v26 c1_i32_13
  let v28 : BitVec 32 := Scalar.addi c0_i32_14 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_15 : BitVec 32 := 2#32
  let v29 : BitVec 32 := Scalar.addi v2 c2_i32_15
  let c8_i32_16 : BitVec 32 := 8#32
  let v30 : BitVec 32 := Scalar.remsi v29 c8_i32_16
  let c1_i32_18 : BitVec 32 := 1#32
  let v31 : BitVec 32 := Scalar.muli v30 c1_i32_18
  let v32 : BitVec 32 := Scalar.addi c0_i32_19 v31
  v32.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v33 : BitVec 32 := Scalar.addi v2 c3_i32
  let c8_i32_20 : BitVec 32 := 8#32
  let v34 : BitVec 32 := Scalar.remsi v33 c8_i32_20
  let c1_i32_22 : BitVec 32 := 1#32
  let v35 : BitVec 32 := Scalar.muli v34 c1_i32_22
  let v36 : BitVec 32 := Scalar.addi c0_i32_23 v35
  v36.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v37 : BitVec 32 := Scalar.addi v2 c4_i32
  let c8_i32_24 : BitVec 32 := 8#32
  let v38 : BitVec 32 := Scalar.remsi v37 c8_i32_24
  let c1_i32_26 : BitVec 32 := 1#32
  let v39 : BitVec 32 := Scalar.muli v38 c1_i32_26
  let v40 : BitVec 32 := Scalar.addi c0_i32_27 v39
  v40.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v41 : BitVec 32 := Scalar.addi v2 c5_i32
  let c8_i32_28 : BitVec 32 := 8#32
  let v42 : BitVec 32 := Scalar.remsi v41 c8_i32_28
  let c1_i32_30 : BitVec 32 := 1#32
  let v43 : BitVec 32 := Scalar.muli v42 c1_i32_30
  let v44 : BitVec 32 := Scalar.addi c0_i32_31 v43
  v44.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v45 : BitVec 32 := Scalar.addi v2 c6_i32
  let c8_i32_32 : BitVec 32 := 8#32
  let v46 : BitVec 32 := Scalar.remsi v45 c8_i32_32
  let c1_i32_34 : BitVec 32 := 1#32
  let v47 : BitVec 32 := Scalar.muli v46 c1_i32_34
  let v48 : BitVec 32 := Scalar.addi c0_i32_35 v47
  v48.toNat
def k0_dev7 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v49 : BitVec 32 := Scalar.addi v2 c7_i32
  let c8_i32_36 : BitVec 32 := 8#32
  let v50 : BitVec 32 := Scalar.remsi v49 c8_i32_36
  let c1_i32_38 : BitVec 32 := 1#32
  let v51 : BitVec 32 := Scalar.muli v50 c1_i32_38
  let v52 : BitVec 32 := Scalar.addi c0_i32_39 v51
  v52.toNat
def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32 : BitVec 32 := 0#32
  let v4 : BitVec 1 := Scalar.cmpi .eq v3 c0_i32
  let v8 : BitVec 32 := Scalar.extui v4
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c2_i32_5 : BitVec 32 := 2#32
  let v16 : BitVec 1 := Scalar.cmpi .sge arg0 c2_i32_5
  let v17 : BitVec 32 := Scalar.extui v16
  let c0_i32_6 : BitVec 32 := 0#32
  let v18 : BitVec 1 := Scalar.cmpi .ne v17 c0_i32_6
  v18

def k0_off2 (i : grid0.Coords) : Fin 1 → Nat :=
  let arg0 : BitVec 32 := BitVec.ofNat 32 (i 0).val
  let c1_i32_8 : BitVec 32 := 1#32
  let v22 : BitVec 32 := Scalar.subi arg0 c1_i32_8
  let c0_i32_10 : BitVec 32 := 0#32
  let v24 : BitVec 1 := Scalar.cmpi .sgt v22 c0_i32_10
  let v25 : BitVec 32 := Scalar.extui v24
  let c0_i32_11 : BitVec 32 := 0#32
  let v26 : BitVec 1 := Scalar.cmpi .slt v22 c0_i32_11
  let v27 : BitVec 32 := Scalar.extui v26
  let v28 : BitVec 32 := Scalar.subi v25 v27
  let c2_i32_9 : BitVec 32 := 2#32
  let c0_i32_12 : BitVec 32 := 0#32
  let v29 : BitVec 1 := Scalar.cmpi .sgt c2_i32_9 c0_i32_12
  let v30 : BitVec 32 := Scalar.extui v29
  let c0_i32_13 : BitVec 32 := 0#32
  let v31 : BitVec 1 := Scalar.cmpi .slt c2_i32_9 c0_i32_13
  let v32 : BitVec 32 := Scalar.extui v31
  let v33 : BitVec 32 := Scalar.subi v30 v32
  let v34 : BitVec 1 := Scalar.cmpi .ne v28 v33
  let v35 : BitVec 32 := Scalar.remsi v22 c2_i32_9
  let c0_i32_14 : BitVec 32 := 0#32
  let v36 : BitVec 1 := Scalar.cmpi .ne v35 c0_i32_14
  let v37 : BitVec 1 := Scalar.andi v34 v36
  let v23 : BitVec 32 := Scalar.divsi v22 c2_i32_9
  let c1_i32_15 : BitVec 32 := 1#32
  let v38 : BitVec 32 := Scalar.subi v23 c1_i32_15
  let v39 : BitVec 32 := Scalar.select v37 v38 v23
  let v42 : Index := Scalar.indexCast v39
  ![v42.toNat]
def k0_cond4 (i : grid0.Coords) : BitVec 1 :=
  let arg0 : BitVec 32 := BitVec.ofNat 32 (i 0).val
  let c1_i32_8 : BitVec 32 := 1#32
  let v22 : BitVec 32 := Scalar.subi arg0 c1_i32_8
  let c0_i32_10 : BitVec 32 := 0#32
  let v24 : BitVec 1 := Scalar.cmpi .sgt v22 c0_i32_10
  let v25 : BitVec 32 := Scalar.extui v24
  let c0_i32_11 : BitVec 32 := 0#32
  let v26 : BitVec 1 := Scalar.cmpi .slt v22 c0_i32_11
  let v27 : BitVec 32 := Scalar.extui v26
  let v28 : BitVec 32 := Scalar.subi v25 v27
  let c2_i32_9 : BitVec 32 := 2#32
  let c0_i32_12 : BitVec 32 := 0#32
  let v29 : BitVec 1 := Scalar.cmpi .sgt c2_i32_9 c0_i32_12
  let v30 : BitVec 32 := Scalar.extui v29
  let c0_i32_13 : BitVec 32 := 0#32
  let v31 : BitVec 1 := Scalar.cmpi .slt c2_i32_9 c0_i32_13
  let v32 : BitVec 32 := Scalar.extui v31
  let v33 : BitVec 32 := Scalar.subi v30 v32
  let v34 : BitVec 1 := Scalar.cmpi .ne v28 v33
  let v35 : BitVec 32 := Scalar.remsi v22 c2_i32_9
  let c0_i32_14 : BitVec 32 := 0#32
  let v36 : BitVec 1 := Scalar.cmpi .ne v35 c0_i32_14
  let v37 : BitVec 1 := Scalar.andi v34 v36
  let v23 : BitVec 32 := Scalar.divsi v22 c2_i32_9
  let c1_i32_15 : BitVec 32 := 1#32
  let v38 : BitVec 32 := Scalar.subi v23 c1_i32_15
  let v39 : BitVec 32 := Scalar.select v37 v38 v23
  let c7_i32 : BitVec 32 := 7#32
  let v60 : BitVec 1 := Scalar.cmpi .slt v39 c7_i32
  let v61 : BitVec 32 := Scalar.extui v60
  let c0_i32_26 : BitVec 32 := 0#32
  let v62 : BitVec 1 := Scalar.cmpi .ne v61 c0_i32_26
  v62

def k0_off3 (i : grid0.Coords) : Fin 3 → Nat :=
  let arg0 : BitVec 32 := BitVec.ofNat 32 (i 0).val
  let c1_i32_29 : BitVec 32 := 1#32
  let v67 : BitVec 32 := Scalar.subi arg0 c1_i32_29
  let v68 : Index := Scalar.indexCast v67
  let c0_30 : Index := 0#32
  let c0_31 : Index := 0#32
  ![v68.toNat, 0, 0]
def k0_off4 (i : grid0.Coords) : Fin 1 → Nat :=
  let arg0 : BitVec 32 := BitVec.ofNat 32 (i 0).val
  let c1_i32_34 : BitVec 32 := 1#32
  let v75 : BitVec 32 := Scalar.subi arg0 c1_i32_34
  ![v75.toNat]
def k0_off5 (i : grid0.Coords) (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_35 : BitVec 32 := 2#32
  let v76 : BitVec 32 := Scalar.muli v2 c2_i32_35
  let arg0 : BitVec 32 := BitVec.ofNat 32 (i 0).val
  let c1_i32_16 : BitVec 32 := 1#32
  let v40 : BitVec 32 := Scalar.subi arg0 c1_i32_16
  let c2_i32_17 : BitVec 32 := 2#32
  let v41 : BitVec 32 := Scalar.remsi v40 c2_i32_17
  let v77 : BitVec 32 := Scalar.addi v76 v41
  ![v77.toNat]
def k0_off6 (i : grid0.Coords) (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_33 : BitVec 32 := 2#32
  let v73 : BitVec 32 := Scalar.muli v2 c2_i32_33
  let arg0 : BitVec 32 := BitVec.ofNat 32 (i 0).val
  let c1_i32_16 : BitVec 32 := 1#32
  let v40 : BitVec 32 := Scalar.subi arg0 c1_i32_16
  let c2_i32_17 : BitVec 32 := 2#32
  let v41 : BitVec 32 := Scalar.remsi v40 c2_i32_17
  let v74 : BitVec 32 := Scalar.addi v73 v41
  let c0_i32_38 : BitVec 32 := 0#32
  let c0_i32_39 : BitVec 32 := 0#32
  ![v74.toNat, 0, 0]
def k0_off7 (i : grid0.Coords) : Fin 3 → Nat :=
  let arg0 : BitVec 32 := BitVec.ofNat 32 (i 0).val
  let c1_i32_32 : BitVec 32 := 1#32
  let v72 : BitVec 32 := Scalar.subi arg0 c1_i32_32
  let c0_i32_40 : BitVec 32 := 0#32
  let c0_i32_41 : BitVec 32 := 0#32
  ![v72.toNat, 0, 0]
def k0_dev8 (v43 : BitVec 32) : Nat :=
  let c0_i32_37 : BitVec 32 := 0#32
  let c1_i32_36 : BitVec 32 := 1#32
  let v78 : BitVec 32 := Scalar.muli v43 c1_i32_36
  let v79 : BitVec 32 := Scalar.addi c0_i32_37 v78
  v79.toNat

def k0_chk1 (i : grid0.Coords) (v43 : BitVec 32) : Prop :=
  (∀ (k0_h2 : k0_cond2 i = 1#1), ∀ (k0_h3 : k0_cond3 i = 1#1), ∀ (k0_h4 : k0_cond4 i = 1#1), (k0_dev8 v43) < nD)
theorem k0_dev8_lt : ∀ (i : grid0.Coords) (v43 : BitVec 32) (k0_hw1 : k0_chk1 i v43), ∀ (k0_h2 : k0_cond2 i = 1#1), ∀ (k0_h3 : k0_cond3 i = 1#1), ∀ (k0_h4 : k0_cond4 i = 1#1), (k0_dev8 v43) < nD := fun i v43 k0_hw1 k0_h2 k0_h3 k0_h4 => k0_hw1 k0_h2 k0_h3 k0_h4

def k0_cond5 (i : grid0.Coords) : BitVec 1 :=
  let arg0 : BitVec 32 := BitVec.ofNat 32 (i 0).val
  let c1_i32_8 : BitVec 32 := 1#32
  let v22 : BitVec 32 := Scalar.subi arg0 c1_i32_8
  let c0_i32_10 : BitVec 32 := 0#32
  let v24 : BitVec 1 := Scalar.cmpi .sgt v22 c0_i32_10
  let v25 : BitVec 32 := Scalar.extui v24
  let c0_i32_11 : BitVec 32 := 0#32
  let v26 : BitVec 1 := Scalar.cmpi .slt v22 c0_i32_11
  let v27 : BitVec 32 := Scalar.extui v26
  let v28 : BitVec 32 := Scalar.subi v25 v27
  let c2_i32_9 : BitVec 32 := 2#32
  let c0_i32_12 : BitVec 32 := 0#32
  let v29 : BitVec 1 := Scalar.cmpi .sgt c2_i32_9 c0_i32_12
  let v30 : BitVec 32 := Scalar.extui v29
  let c0_i32_13 : BitVec 32 := 0#32
  let v31 : BitVec 1 := Scalar.cmpi .slt c2_i32_9 c0_i32_13
  let v32 : BitVec 32 := Scalar.extui v31
  let v33 : BitVec 32 := Scalar.subi v30 v32
  let v34 : BitVec 1 := Scalar.cmpi .ne v28 v33
  let v35 : BitVec 32 := Scalar.remsi v22 c2_i32_9
  let c0_i32_14 : BitVec 32 := 0#32
  let v36 : BitVec 1 := Scalar.cmpi .ne v35 c0_i32_14
  let v37 : BitVec 1 := Scalar.andi v34 v36
  let v23 : BitVec 32 := Scalar.divsi v22 c2_i32_9
  let c1_i32_15 : BitVec 32 := 1#32
  let v38 : BitVec 32 := Scalar.subi v23 c1_i32_15
  let v39 : BitVec 32 := Scalar.select v37 v38 v23
  let c7_i32_27 : BitVec 32 := 7#32
  let v63 : BitVec 1 := Scalar.cmpi .eq v39 c7_i32_27
  let v64 : BitVec 32 := Scalar.extui v63
  let c0_i32_28 : BitVec 32 := 0#32
  let v65 : BitVec 1 := Scalar.cmpi .ne v64 c0_i32_28
  v65

def k0_off8 (i : grid0.Coords) (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v67 : BitVec 32 := Scalar.muli v2 c2_i32_29
  let arg0 : BitVec 32 := BitVec.ofNat 32 (i 0).val
  let c1_i32_16 : BitVec 32 := 1#32
  let v40 : BitVec 32 := Scalar.subi arg0 c1_i32_16
  let c2_i32_17 : BitVec 32 := 2#32
  let v41 : BitVec 32 := Scalar.remsi v40 c2_i32_17
  let v68 : BitVec 32 := Scalar.addi v67 v41
  let v69 : Index := Scalar.indexCast v68
  let c0_30 : Index := 0#32
  let c0_31 : Index := 0#32
  ![v69.toNat, 0, 0]
def k0_cond7 (i : grid0.Coords) : BitVec 1 :=
  let arg0 : BitVec 32 := BitVec.ofNat 32 (i 0).val
  let c2_i32 : BitVec 32 := 2#32
  let v3 : BitVec 32 := Scalar.remsi arg0 c2_i32
  let c0_i32 : BitVec 32 := 0#32
  let v4 : BitVec 1 := Scalar.cmpi .eq v3 c0_i32
  let v_true : BitVec 1 := 1#1
  let v10 : BitVec 1 := Scalar.xori v4 v_true
  let v11 : BitVec 32 := Scalar.extui v10
  let c0_i32_3 : BitVec 32 := 0#32
  let v12 : BitVec 1 := Scalar.cmpi .ne v11 c0_i32_3
  v12

def k0_off9 (i : grid0.Coords) : Fin 1 → Nat :=
  let arg0 : BitVec 32 := BitVec.ofNat 32 (i 0).val
  let c1_i32_5 : BitVec 32 := 1#32
  let v16 : BitVec 32 := Scalar.subi arg0 c1_i32_5
  let c0_i32_7 : BitVec 32 := 0#32
  let v18 : BitVec 1 := Scalar.cmpi .sgt v16 c0_i32_7
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v16 c2_i32_6
  let c0_i32_11 : BitVec 32 := 0#32
  let v30 : BitVec 1 := Scalar.cmpi .ne v29 c0_i32_11
  let v31 : BitVec 1 := Scalar.andi v28 v30
  let v17 : BitVec 32 := Scalar.divsi v16 c2_i32_6
  let c1_i32_12 : BitVec 32 := 1#32
  let v32 : BitVec 32 := Scalar.subi v17 c1_i32_12
  let v33 : BitVec 32 := Scalar.select v31 v32 v17
  let v36 : Index := Scalar.indexCast v33
  ![v36.toNat]
def k0_cond8 (i : grid0.Coords) : BitVec 1 :=
  let arg0 : BitVec 32 := BitVec.ofNat 32 (i 0).val
  let c1_i32_5 : BitVec 32 := 1#32
  let v16 : BitVec 32 := Scalar.subi arg0 c1_i32_5
  let c0_i32_7 : BitVec 32 := 0#32
  let v18 : BitVec 1 := Scalar.cmpi .sgt v16 c0_i32_7
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v16 c2_i32_6
  let c0_i32_11 : BitVec 32 := 0#32
  let v30 : BitVec 1 := Scalar.cmpi .ne v29 c0_i32_11
  let v31 : BitVec 1 := Scalar.andi v28 v30
  let v17 : BitVec 32 := Scalar.divsi v16 c2_i32_6
  let c1_i32_12 : BitVec 32 := 1#32
  let v32 : BitVec 32 := Scalar.subi v17 c1_i32_12
  let v33 : BitVec 32 := Scalar.select v31 v32 v17
  let c7_i32 : BitVec 32 := 7#32
  let v54 : BitVec 1 := Scalar.cmpi .slt v33 c7_i32
  let v55 : BitVec 32 := Scalar.extui v54
  let c0_i32_23 : BitVec 32 := 0#32
  let v56 : BitVec 1 := Scalar.cmpi .ne v55 c0_i32_23
  v56

def k0_off10 (i : grid0.Coords) : Fin 3 → Nat :=
  let arg0 : BitVec 32 := BitVec.ofNat 32 (i 0).val
  let c1_i32_30 : BitVec 32 := 1#32
  let v66 : BitVec 32 := Scalar.subi arg0 c1_i32_30
  let v67 : Index := Scalar.indexCast v66
  let c0_31 : Index := 0#32
  let c0_32 : Index := 0#32
  ![v67.toNat, 0, 0]
def k0_off11 (i : grid0.Coords) : Fin 1 → Nat :=
  let arg0 : BitVec 32 := BitVec.ofNat 32 (i 0).val
  let c1_i32_35 : BitVec 32 := 1#32
  let v74 : BitVec 32 := Scalar.subi arg0 c1_i32_35
  ![v74.toNat]
def k0_off12 (i : grid0.Coords) (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_36 : BitVec 32 := 2#32
  let v75 : BitVec 32 := Scalar.muli v2 c2_i32_36
  let arg0 : BitVec 32 := BitVec.ofNat 32 (i 0).val
  let c1_i32_13 : BitVec 32 := 1#32
  let v34 : BitVec 32 := Scalar.subi arg0 c1_i32_13
  let c2_i32_14 : BitVec 32 := 2#32
  let v35 : BitVec 32 := Scalar.remsi v34 c2_i32_14
  let v76 : BitVec 32 := Scalar.addi v75 v35
  ![v76.toNat]
def k0_off13 (i : grid0.Coords) (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_34 : BitVec 32 := 2#32
  let v72 : BitVec 32 := Scalar.muli v2 c2_i32_34
  let arg0 : BitVec 32 := BitVec.ofNat 32 (i 0).val
  let c1_i32_13 : BitVec 32 := 1#32
  let v34 : BitVec 32 := Scalar.subi arg0 c1_i32_13
  let c2_i32_14 : BitVec 32 := 2#32
  let v35 : BitVec 32 := Scalar.remsi v34 c2_i32_14
  let v73 : BitVec 32 := Scalar.addi v72 v35
  let c0_i32_39 : BitVec 32 := 0#32
  let c0_i32_40 : BitVec 32 := 0#32
  ![v73.toNat, 0, 0]
def k0_off14 (i : grid0.Coords) : Fin 3 → Nat :=
  let arg0 : BitVec 32 := BitVec.ofNat 32 (i 0).val
  let c1_i32_33 : BitVec 32 := 1#32
  let v71 : BitVec 32 := Scalar.subi arg0 c1_i32_33
  let c0_i32_41 : BitVec 32 := 0#32
  let c0_i32_42 : BitVec 32 := 0#32
  ![v71.toNat, 0, 0]
def k0_dev9 (v37 : BitVec 32) : Nat :=
  let c0_i32_38 : BitVec 32 := 0#32
  let c1_i32_37 : BitVec 32 := 1#32
  let v77 : BitVec 32 := Scalar.muli v37 c1_i32_37
  let v78 : BitVec 32 := Scalar.addi c0_i32_38 v77
  v78.toNat

def k0_chk2 (i : grid0.Coords) (v37 : BitVec 32) : Prop :=
  (∀ (k0_h7 : k0_cond7 i = 1#1), ∀ (k0_h8 : k0_cond8 i = 1#1), (k0_dev9 v37) < nD)
theorem k0_dev9_lt : ∀ (i : grid0.Coords) (v37 : BitVec 32) (k0_hw2 : k0_chk2 i v37), ∀ (k0_h7 : k0_cond7 i = 1#1), ∀ (k0_h8 : k0_cond8 i = 1#1), (k0_dev9 v37) < nD := fun i v37 k0_hw2 k0_h7 k0_h8 => k0_hw2 k0_h7 k0_h8

def k0_cond9 (i : grid0.Coords) : BitVec 1 :=
  let arg0 : BitVec 32 := BitVec.ofNat 32 (i 0).val
  let c1_i32_5 : BitVec 32 := 1#32
  let v16 : BitVec 32 := Scalar.subi arg0 c1_i32_5
  let c0_i32_7 : BitVec 32 := 0#32
  let v18 : BitVec 1 := Scalar.cmpi .sgt v16 c0_i32_7
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v16 c2_i32_6
  let c0_i32_11 : BitVec 32 := 0#32
  let v30 : BitVec 1 := Scalar.cmpi .ne v29 c0_i32_11
  let v31 : BitVec 1 := Scalar.andi v28 v30
  let v17 : BitVec 32 := Scalar.divsi v16 c2_i32_6
  let c1_i32_12 : BitVec 32 := 1#32
  let v32 : BitVec 32 := Scalar.subi v17 c1_i32_12
  let v33 : BitVec 32 := Scalar.select v31 v32 v17
  let c7_i32_24 : BitVec 32 := 7#32
  let v57 : BitVec 1 := Scalar.cmpi .eq v33 c7_i32_24
  let v58 : BitVec 32 := Scalar.extui v57
  let c0_i32_25 : BitVec 32 := 0#32
  let v59 : BitVec 1 := Scalar.cmpi .ne v58 c0_i32_25
  v59

def k0_off15 (i : grid0.Coords) (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_30 : BitVec 32 := 2#32
  let v66 : BitVec 32 := Scalar.muli v2 c2_i32_30
  let arg0 : BitVec 32 := BitVec.ofNat 32 (i 0).val
  let c1_i32_13 : BitVec 32 := 1#32
  let v34 : BitVec 32 := Scalar.subi arg0 c1_i32_13
  let c2_i32_14 : BitVec 32 := 2#32
  let v35 : BitVec 32 := Scalar.remsi v34 c2_i32_14
  let v67 : BitVec 32 := Scalar.addi v66 v35
  let v68 : Index := Scalar.indexCast v67
  let c0_31 : Index := 0#32
  let c0_32 : Index := 0#32
  ![v68.toNat, 0, 0]
def k0_cond10 (i : grid0.Coords) : BitVec 1 :=
  let arg0 : BitVec 32 := BitVec.ofNat 32 (i 0).val
  let c16_i32 : BitVec 32 := 16#32
  let v13 : BitVec 1 := Scalar.cmpi .eq arg0 c16_i32
  let v14 : BitVec 32 := Scalar.extui v13
  let c0_i32_4 : BitVec 32 := 0#32
  let v15 : BitVec 1 := Scalar.cmpi .ne v14 c0_i32_4
  v15

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let c0_i32_11 : BitVec 32 := 0#32
  ![v2.toNat, 0, 0]
def k0_dev10 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v16 : BitVec 32 := Scalar.addi v2 c1_i32_5
  let c8_i32_6 : BitVec 32 := 8#32
  let v17 : BitVec 32 := Scalar.remsi v16 c8_i32_6
  let c1_i32_8 : BitVec 32 := 1#32
  let v18 : BitVec 32 := Scalar.muli v17 c1_i32_8
  let v19 : BitVec 32 := Scalar.addi c0_i32_9 v18
  v19.toNat
def k0_dev11 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_12 : BitVec 32 := 2#32
  let v26 : BitVec 32 := Scalar.addi v2 c2_i32_12
  let c8_i32_13 : BitVec 32 := 8#32
  let v27 : BitVec 32 := Scalar.remsi v26 c8_i32_13
  let c1_i32_15 : BitVec 32 := 1#32
  let v28 : BitVec 32 := Scalar.muli v27 c1_i32_15
  let v29 : BitVec 32 := Scalar.addi c0_i32_16 v28
  v29.toNat
def k0_dev12 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v36 : BitVec 32 := Scalar.addi v2 c3_i32
  let c8_i32_19 : BitVec 32 := 8#32
  let v37 : BitVec 32 := Scalar.remsi v36 c8_i32_19
  let c1_i32_21 : BitVec 32 := 1#32
  let v38 : BitVec 32 := Scalar.muli v37 c1_i32_21
  let v39 : BitVec 32 := Scalar.addi c0_i32_22 v38
  v39.toNat
def k0_dev13 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v46 : BitVec 32 := Scalar.addi v2 c4_i32
  let c8_i32_25 : BitVec 32 := 8#32
  let v47 : BitVec 32 := Scalar.remsi v46 c8_i32_25
  let c1_i32_27 : BitVec 32 := 1#32
  let v48 : BitVec 32 := Scalar.muli v47 c1_i32_27
  let v49 : BitVec 32 := Scalar.addi c0_i32_28 v48
  v49.toNat
def k0_dev14 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_31 : BitVec 32 := 8#32
  let v57 : BitVec 32 := Scalar.remsi v56 c8_i32_31
  let c1_i32_33 : BitVec 32 := 1#32
  let v58 : BitVec 32 := Scalar.muli v57 c1_i32_33
  let v59 : BitVec 32 := Scalar.addi c0_i32_34 v58
  v59.toNat
def k0_dev15 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v66 : BitVec 32 := Scalar.addi v2 c6_i32
  let c8_i32_37 : BitVec 32 := 8#32
  let v67 : BitVec 32 := Scalar.remsi v66 c8_i32_37
  let c1_i32_39 : BitVec 32 := 1#32
  let v68 : BitVec 32 := Scalar.muli v67 c1_i32_39
  let v69 : BitVec 32 := Scalar.addi c0_i32_40 v68
  v69.toNat
def k0_dev16 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v76 : BitVec 32 := Scalar.addi v2 c7_i32
  let c8_i32_43 : BitVec 32 := 8#32
  let v77 : BitVec 32 := Scalar.remsi v76 c8_i32_43
  let c1_i32_45 : BitVec 32 := 1#32
  let v78 : BitVec 32 := Scalar.muli v77 c1_i32_45
  let v79 : BitVec 32 := Scalar.addi c0_i32_46 v78
  v79.toNat
def k0_off18 (d0 : Dev nD) (c1_i32_49 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v86 : BitVec 32 := Scalar.addi v2 c1_i32_49
  let c8_i32_50 : BitVec 32 := 8#32
  let v87 : BitVec 32 := Scalar.remsi v86 c8_i32_50
  ![v87.toNat]
def k0_off19 (d0 : Dev nD) (c1_i32_49 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v86 : BitVec 32 := Scalar.addi v2 c1_i32_49
  let c8_i32_50 : BitVec 32 := 8#32
  let v87 : BitVec 32 := Scalar.remsi v86 c8_i32_50
  let c0_i32_54 : BitVec 32 := 0#32
  let c0_i32_55 : BitVec 32 := 0#32
  ![v87.toNat, 0, 0]
def k0_off20 (d0 : Dev nD) (c0_i32_120 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_119 : BitVec 32 := 2#32
  let v169 : BitVec 32 := Scalar.muli v2 c2_i32_119
  let v170 : BitVec 32 := Scalar.addi v169 c0_i32_120
  let v171 : Index := Scalar.indexCast v170
  let c0_121 : Index := 0#32
  let c0_122 : Index := 0#32
  ![v171.toNat, 0, 0]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v186 : BitVec 32 := Scalar.muli v2 c512_i32
  let v187 : Index := Scalar.indexCast v186
  let c0_125 : Index := 0#32
  ![v187.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_132 : BitVec 32 := 512#32
  let v206 : BitVec 32 := Scalar.muli v2 c512_i32_132
  let v207 : Index := Scalar.indexCast v206
  let c512 : Index := 512#32
  ![v207.toNat, 512]
def k0_off23 (d0 : Dev nD) (c1_i32_133 : BitVec 32) (c0_i32_141 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.subi v2 c1_i32_133
  let c8_i32_134 : BitVec 32 := 8#32
  let v210 : BitVec 32 := Scalar.addi v209 c8_i32_134
  let c8_i32_135 : BitVec 32 := 8#32
  let v211 : BitVec 32 := Scalar.remsi v210 c8_i32_135
  let c2_i32_140 : BitVec 32 := 2#32
  let v216 : BitVec 32 := Scalar.muli v211 c2_i32_140
  let v217 : BitVec 32 := Scalar.addi v216 c0_i32_141
  ![v217.toNat]
def k0_off24 (d0 : Dev nD) (c1_i32_133 : BitVec 32) (c0_i32_139 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.subi v2 c1_i32_133
  let c8_i32_134 : BitVec 32 := 8#32
  let v210 : BitVec 32 := Scalar.addi v209 c8_i32_134
  let c8_i32_135 : BitVec 32 := 8#32
  let v211 : BitVec 32 := Scalar.remsi v210 c8_i32_135
  let c2_i32_138 : BitVec 32 := 2#32
  let v214 : BitVec 32 := Scalar.muli v211 c2_i32_138
  let v215 : BitVec 32 := Scalar.addi v214 c0_i32_139
  let c0_i32_145 : BitVec 32 := 0#32
  let c0_i32_146 : BitVec 32 := 0#32
  ![v215.toNat, 0, 0]
def k0_off25 (d0 : Dev nD) (c1_i32_133 : BitVec 32) (c0_i32_163 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.subi v2 c1_i32_133
  let c8_i32_134 : BitVec 32 := 8#32
  let v210 : BitVec 32 := Scalar.addi v209 c8_i32_134
  let c8_i32_135 : BitVec 32 := 8#32
  let v211 : BitVec 32 := Scalar.remsi v210 c8_i32_135
  let c2_i32_162 : BitVec 32 := 2#32
  let v240 : BitVec 32 := Scalar.muli v211 c2_i32_162
  let v241 : BitVec 32 := Scalar.addi v240 c0_i32_163
  let v242 : Index := Scalar.indexCast v241
  let c0_164 : Index := 0#32
  let c0_165 : Index := 0#32
  ![v242.toNat, 0, 0]
def k0_off26 (d0 : Dev nD) (c1_i32_133 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.subi v2 c1_i32_133
  let c8_i32_134 : BitVec 32 := 8#32
  let v210 : BitVec 32 := Scalar.addi v209 c8_i32_134
  let c8_i32_135 : BitVec 32 := 8#32
  let v211 : BitVec 32 := Scalar.remsi v210 c8_i32_135
  let c512_i32_168 : BitVec 32 := 512#32
  let v257 : BitVec 32 := Scalar.muli v211 c512_i32_168
  let v258 : Index := Scalar.indexCast v257
  let c0_169 : Index := 0#32
  ![v258.toNat, 0]
def k0_off27 (d0 : Dev nD) (c1_i32_133 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.subi v2 c1_i32_133
  let c8_i32_134 : BitVec 32 := 8#32
  let v210 : BitVec 32 := Scalar.addi v209 c8_i32_134
  let c8_i32_135 : BitVec 32 := 8#32
  let v211 : BitVec 32 := Scalar.remsi v210 c8_i32_135
  let c512_i32_176 : BitVec 32 := 512#32
  let v277 : BitVec 32 := Scalar.muli v211 c512_i32_176
  let v278 : Index := Scalar.indexCast v277
  let c512_177 : Index := 512#32
  ![v278.toNat, 512]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : Index := Scalar.indexCast v17
  let v19 : BitVec 32 := pf.at 0 (Rect.unit (s := S8) ![v18.toNat] S1.size (k0_off1_inb i)) numel1_S1
  let c2_i32_4 : BitVec 32 := 2#32
  let v20 : BitVec 32 := Scalar.muli v19 c2_i32_4
  let c15_i32_5 : BitVec 32 := 15#32
  let v21 : BitVec 32 := Scalar.minsi arg0 c15_i32_5
  let c2_i32_6 : BitVec 32 := 2#32
  let c0_i32_7 : BitVec 32 := 0#32
  let v22 : BitVec 1 := Scalar.cmpi .eq c2_i32_6 c0_i32_7
  let c1_i32_8 : BitVec 32 := 1#32
  let v23 : BitVec 32 := Scalar.select v22 c1_i32_8 c2_i32_6
  let v24 : BitVec 32 := Scalar.remsi v21 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v20 v31
  let c0_i32_12 : BitVec 32 := 0#32
  let c0_i32_13 : BitVec 32 := 0#32
  ![c0_i32_12.toNat, v32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x8192, .bf16⟩
  | .local _ .vmem, ⟨0, _⟩ => ⟨S4096x8192, .f32⟩
  | .local _ .vmem, ⟨1, _⟩ => ⟨S1x1, .f32⟩
  | .local _ .vmem, ⟨2, _⟩ => ⟨S4096x8192, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Slots.lean ====
/- The slots of the three stacked scratch buffers: which elements a slot has, and what a store, a copy or a load of one
   slot does to them. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Tactic

@[expose] public section

noncomputable section

namespace Cert.KernelIdeal.A2A

open Cert.KernelIdeal Cert.KernelIdeal.Gen
open Idealize.ShloMosaic
open Idealize.ShloMosaic.TcCoe

variable {F : FTy → Type} [FloatOps F]

section Generic
variable {n A B : ℕ}

/-- The elements of slot `k` of a stack of `n` slots. -/
def slot (n A B k : ℕ) : Finset (⟨3, ![n, A, B]⟩ : Shape).Idx := Finset.univ.filter fun y => (y 0).val = k

/-- An element's place inside its slot. -/
def inSlot (y : (⟨3, ![n, A, B]⟩ : Shape).Idx) : (⟨3, ![1, A, B]⟩ : Shape).Idx
  | 0 => (0 : Fin 1)
  | 1 => y 1
  | 2 => y 2

theorem mem_slot {k : ℕ} {y : (⟨3, ![n, A, B]⟩ : Shape).Idx} : y ∈ slot n A B k ↔ (y 0).val = k := by
  unfold slot; rw [Finset.mem_filter]; exact ⟨fun h => h.2, fun h => ⟨Finset.mem_univ _, h⟩⟩

theorem slot_disjoint {k k' : ℕ} (h : k ≠ k') : Disjoint (slot n A B k) (slot n A B k') :=
  Finset.disjoint_left.2 fun y h1 h2 => h ((mem_slot.1 h1).symm.trans (mem_slot.1 h2))

theorem slot_cover : Finset.univ.biUnion (fun k : Fin n => slot n A B k.val) = Finset.univ :=
  Finset.eq_univ_iff_forall.2 fun y => Finset.mem_biUnion.2 ⟨y 0, Finset.mem_univ _, mem_slot.2 rfl⟩

theorem slot_rect (k : ℕ) (inb : ∀ a, (![k, 0, 0] : Fin 3 → ℕ) a + (![1, A, B] : Fin 3 → ℕ) a ≤ (![n, A, B] : Fin 3 → ℕ) a) :
    (Rect.unit (s := ⟨3, ![n, A, B]⟩) ![k, 0, 0] ![1, A, B] inb).set = slot n A B k := by
  ext y
  rw [Rect.mem_set_unit, mem_slot]
  constructor
  · intro h
    have h0 := h 0
    simp only [Matrix.cons_val_zero] at h0
    omega
  · intro h a
    have h1 : (y 1).val < B ∨ (y 1).val < A := .inr (y 1).isLt
    match a with
    | 0 => simp only [Matrix.cons_val_zero]; omega
    | 1 => exact ⟨Nat.zero_le _, by have := (y 1).isLt; exact (Nat.zero_add A).symm ▸ this⟩
    | 2 => exact ⟨Nat.zero_le _, by have := (y 2).isLt; exact (Nat.zero_add B).symm ▸ this⟩

theorem slot_emb (k : ℕ) (inb : ∀ a, (![k, 0, 0] : Fin 3 → ℕ) a + (![1, A, B] : Fin 3 → ℕ) a ≤ (![n, A, B] : Fin 3 → ℕ) a)
    (y : (⟨3, ![n, A, B]⟩ : Shape).Idx) (hy : (y 0).val = k) :
    (Rect.unit (s := ⟨3, ![n, A, B]⟩) ![k, 0, 0] ![1, A, B] inb).emb (inSlot y) = y := by
  funext a
  apply Fin.ext
  rw [Rect.emb_apply]
  match a with
  | 0 => exact (show k + 1 * 0 = (y 0).val by omega)
  | 1 => exact (show 0 + 1 * (y 1).val = (y 1).val by omega)
  | 2 => exact (show 0 + 1 * (y 2).val = (y 2).val by omega)

theorem inSlot_emb (k : ℕ) (inb : ∀ a, (![k, 0, 0] : Fin 3 → ℕ) a + (![1, A, B] : Fin 3 → ℕ) a ≤ (![n, A, B] : Fin 3 → ℕ) a)
    (z : (⟨3, ![1, A, B]⟩ : Shape).Idx) :
    inSlot ((Rect.unit (s := ⟨3, ![n, A, B]⟩) ![k, 0, 0] ![1, A, B] inb).emb z) = z := by
  funext a
  apply Fin.ext
  match a with
  | 0 => exact (show 0 = (z 0).val from (Nat.lt_one_iff.1 (z 0).isLt).symm)
  | 1 => exact (show 0 + 1 * (z 1).val = (z 1).val by omega)
  | 2 => exact (show 0 + 1 * (z 2).val = (z 2).val by omega)

theorem emb_zero (k : ℕ) (inb : ∀ a, (![k, 0, 0] : Fin 3 → ℕ) a + (![1, A, B] : Fin 3 → ℕ) a ≤ (![n, A, B] : Fin 3 → ℕ) a)
    (z : (⟨3, ![1, A, B]⟩ : Shape).Idx) :
    ((Rect.unit (s := ⟨3, ![n, A, B]⟩) ![k, 0, 0] ![1, A, B] inb).emb z 0).val = k :=
  (show k + 1 * (z 0).val = k by have := Nat.lt_one_iff.1 (z 0).isLt; omega)

end Generic

/-! ## The three buffers -/

abbrev sendM : Memref sig .tc .vmem S14x512x512 .bf16 := Memref.whole cc0_scratch2
abbrev recvM : Memref sig .tc .vmem S16x512x512 .bf16 := Memref.whole cc0_scratch3
abbrev accM : Memref sig .tc .vmem S8x128 .f32 := Memref.whole cc0_scratch4
abbrev amaxM : Memref sig .tc .vmem S8x8x128 .f32 := Memref.whole cc0_scratch5

theorem send_set {k : ℕ} {off : Fin 3 → ℕ} (ho : off = ![k, 0, 0]) (inb) :
    (sendM.access (Rect.unit (s := S14x512x512) off S1x512x512.size inb)).set = slot 14 512 512 k := by
  subst ho; exact (View.set_slice_whole _ _).trans (slot_rect k inb)
theorem recv_set {k : ℕ} {off : Fin 3 → ℕ} (ho : off = ![k, 0, 0]) (inb) :
    (recvM.access (Rect.unit (s := S16x512x512) off S1x512x512.size inb)).set = slot 16 512 512 k := by
  subst ho; exact (View.set_slice_whole _ _).trans (slot_rect k inb)
theorem amax_set {k : ℕ} {off : Fin 3 → ℕ} (ho : off = ![k, 0, 0]) (inb) :
    (amaxM.access (Rect.unit (s := S8x8x128) off S1x8x128.size inb)).set = slot 8 8 128 k := by
  subst ho; exact (View.set_slice_whole _ _).trans (slot_rect k inb)

/-- A store of a whole slot, read at one of its elements. -/
theorem send_write {k : ℕ} {off : Fin 3 → ℕ} (ho : off = ![k, 0, 0]) (inb) (f : (cc0_scratch2 : Ref sig .tc).ty.Contents (Elt F))
    (w : Vec F S1x512x512 .bf16) (y : S14x512x512.Idx) (hy : (y 0).val = k) :
    (sendM.access (Rect.unit (s := S14x512x512) off S1x512x512.size inb)).write (Elt F) f w Finset.univ y = w (inSlot y) := by
  subst ho
  conv_lhs => rw [← slot_emb k inb y hy]
  exact View.write_emb_of_mem (v := sendM.access (Rect.unit (s := S14x512x512) ![k, 0, 0] S1x512x512.size inb)) f w (Finset.mem_univ (inSlot y))
theorem recv_write {k : ℕ} {off : Fin 3 → ℕ} (ho : off = ![k, 0, 0]) (inb) (f : (cc0_scratch3 : Ref sig .tc).ty.Contents (Elt F))
    (w : Vec F S1x512x512 .bf16) (y : S16x512x512.Idx) (hy : (y 0).val = k) :
    (recvM.access (Rect.unit (s := S16x512x512) off S1x512x512.size inb)).write (Elt F) f w Finset.univ y = w (inSlot y) := by
  subst ho
  conv_lhs => rw [← slot_emb k inb y hy]
  exact View.write_emb_of_mem (v := recvM.access (Rect.unit (s := S16x512x512) ![k, 0, 0] S1x512x512.size inb)) f w (Finset.mem_univ (inSlot y))

/-- A load of a whole slot. -/
theorem recv_read {k : ℕ} {off : Fin 3 → ℕ} (ho : off = ![k, 0, 0]) (inb) (f : (cc0_scratch3 : Ref sig .tc).ty.Contents (Elt F))
    (w : Vec F S1x512x512 .bf16) (hf : ∀ y : S16x512x512.Idx, (y 0).val = k → f y = w (inSlot y)) :
    (recvM.access (Rect.unit (s := S16x512x512) off S1x512x512.size inb)).read (Elt F) f = w := by
  subst ho
  funext z
  exact (hf _ (emb_zero k inb z)).trans (congrArg w (inSlot_emb k inb z))

/-- What a copy of one slot of the send buffer leaves in a slot of the receive buffer. -/
theorem send_land {j k : ℕ} {offs offd : Fin 3 → ℕ} (hs : offs = ![j, 0, 0]) (hd : offd = ![k, 0, 0]) (inbs) (inbd)
    (fd : (cc0_scratch3 : Ref sig .tc).ty.Contents (Elt F)) (fs : (cc0_scratch2 : Ref sig .tc).ty.Contents (Elt F)) (w : Vec F S1x512x512 .bf16)
    (hf : ∀ y : S14x512x512.Idx, (y 0).val = j → fs y = w (inSlot y)) (y : S16x512x512.Idx) (hy : (y 0).val = k) :
    ((recvM.slice (Rect.unit (s := S16x512x512) offd S1x512x512.size inbd) (fun _ => rfl)).squeeze S512x512 squeezes_S1x512x512_S512x512).view.write (Elt F) fd
      (((sendM.slice (Rect.unit (s := S14x512x512) offs S1x512x512.size inbs) (fun _ => rfl)).squeeze S512x512 squeezes_S1x512x512_S512x512).view.read (Elt F) fs)
      Finset.univ y = w (inSlot y) := by
  subst hs hd
  set e := Shape.reshapeEquiv (squeezes_S1x512x512_S512x512 : S1x512x512.Squeezes S512x512).numel_eq with he
  obtain ⟨x, hx⟩ := e.surjective (inSlot y)
  have h2 : ((recvM.slice (Rect.unit (s := S16x512x512) ![k, 0, 0] S1x512x512.size inbd) (fun _ => rfl)).squeeze S512x512 squeezes_S1x512x512_S512x512).view.emb x = y := by
    refine Eq.trans ?_ (slot_emb k inbd y hy)
    rw [← hx]; rfl
  conv_lhs => rw [← h2]
  refine (View.write_emb_of_mem _ _ (Finset.mem_univ x)).trans ?_
  refine (hf _ (emb_zero j inbs (e x))).trans (congrArg w ?_)
  exact (inSlot_emb j inbs (e x)).trans hx

/-- What a copy of the running maxima leaves in a slot of the buffer that gathers them. -/
theorem amax_land {k : ℕ} {off : Fin 3 → ℕ} (hd : off = ![k, 0, 0]) (inb)
    (fd : (cc0_scratch5 : Ref sig .tc).ty.Contents (Elt F)) (fs : Vec F S8x128 .f32) (y : S8x8x128.Idx) (hy : (y 0).val = k) :
    ((amaxM.slice (Rect.unit (s := S8x8x128) off S1x8x128.size inb) (fun _ => rfl)).squeeze S8x128 squeezes_S1x8x128_S8x128).view.write (Elt F) fd
      ((accM : Memref sig .tc .vmem S8x128 .f32).view.read (Elt F) fs) Finset.univ y
      = fs ((Shape.reshapeEquiv (squeezes_S1x8x128_S8x128 : S1x8x128.Squeezes S8x128).numel_eq).symm (inSlot y)) := by
  subst hd
  set e := Shape.reshapeEquiv (squeezes_S1x8x128_S8x128 : S1x8x128.Squeezes S8x128).numel_eq with he
  obtain ⟨x, hx⟩ := e.surjective (inSlot y)
  have h2 : ((amaxM.slice (Rect.unit (s := S8x8x128) ![k, 0, 0] S1x8x128.size inb) (fun _ => rfl)).squeeze S8x128 squeezes_S1x8x128_S8x128).view.emb x = y := by
    refine Eq.trans ?_ (slot_emb k inb y hy)
    rw [← hx]; rfl
  conv_lhs => rw [← h2]
  refine (View.write_emb_of_mem _ _ (Finset.mem_univ x)).trans ?_
  rw [← hx, Equiv.symm_apply_apply]; rfl

/-! ## The semaphores of the arrays -/

theorem sem_at {n b : ℕ} (h : b + (⟨1, ![n]⟩ : Shape).numel ≤ 50) {off : Fin 1 → ℕ} (q : DmaSem sig)
    (inb : ∀ a, off a + S1.size a ≤ (⟨1, ![n]⟩ : Shape).size a) (hq : b + off 0 = q.val) :
    (((SemArray.consecutive (n := 50) b (⟨1, ![n]⟩ : Shape) h).slice (Rect.unit (s := ⟨1, ![n]⟩) off S1.size inb)).squeeze S_ squeezes_S1_S_).sem = q := by
  apply Fin.ext
  refine Eq.trans ?_ hq
  show b + ((⟨1, ![n]⟩ : Shape).rowMajor _).val = _
  rw [Shape.rowMajor_val_one]
  show b + (off 0 + 1 * _) = _
  have hz : ∀ z : Fin 1, off 0 + 1 * z.val = off 0 := fun z => by omega
  exact congrArg (b + ·) (hz _)

end Cert.KernelIdeal.A2A

end
-- ==== Proof.Proto.lean ====
/- The protocol of the eight devices: what every buffer holds when it is handed over, and for every semaphore who raises
   it, by how much, and what the raise hands over. -/
module

public import proofs.«01_k».proof.Proof.Slots
public import Idealize.ShloMosaic.Lib.Pipeline.Kit
public import Idealize.ShloMosaic.Lib.Transfers

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices, cells -/

set_option backward.proofsInPublic true in
/-- The device of a number. -/
def dv (n : ℕ) : Dev nD := ⟨n % 8, Nat.mod_lt _ (by decide)⟩
/-- The device `t` places after `c`, and the one `t` places before it. -/
def sh (c : Dev nD) (t : ℕ) : Dev nD := dv (c.val + t)
def sub (c : Dev nD) (t : ℕ) : Dev nD := dv (c.val + 8 - t)

/-- The column block of the weight that item `j` of device `c` multiplies. -/
def itemBlk (c : Dev nD) (j : ℕ) : ℕ := 2 * (sh c (j / 2 + 1)).val + j % 2

abbrev barS : Sem sig := (SemArray.scalar (sig.barrier 0 rfl) : Sems sig S_).sem
set_option backward.proofsInPublic true in
def dq (q : ℕ) : DmaSem sig := (⟨q % 50, Nat.mod_lt _ (by decide)⟩ : Fin 50)
abbrev barCell (c : Dev nD) : GSem nD τ sig := ((c : Thread nD τ), .reg barS)
abbrev dcell (c : Dev nD) (q : ℕ) : GSem nD τ sig := ((c : Thread nD τ), .dma (dq q))

theorem dq_val {q : ℕ} (h : q < 50) : (dq q).val = q := Nat.mod_eq_of_lt h
theorem dq_inj {q q' : ℕ} (h : q < 50) (h' : q' < 50) (he : dq q = dq q') : q = q' := by
  have := congrArg Fin.val he; rwa [dq_val h, dq_val h'] at this

/-! ## The resources -/

abbrev UB : Type := URounds (GSem nD τ sig) (Fin 8)
abbrev UU : Type := UR sig nD τ × UB

local notation "𝕄" => MT nD τ sig Unit (Elt F) ℕ UU ℕ

theorem bigSep_at {I : Type} [DecidableEq I] {s : Finset I} {i : I} (h : i ∈ s) (Φ : I → sProp 𝕄) : (bigSep s Φ : sProp 𝕄) ⊢ Φ i := bigSep_elim h
theorem bigSep_cut {I : Type} [DecidableEq I] {s : Finset I} {i : I} (h : i ∈ s) (Φ : I → sProp 𝕄) :
    bigSep s Φ = iprop(Φ i ∗ bigSep (s.erase i) Φ) := bigSep_erase h
theorem bigSep_add {I : Type} [DecidableEq I] {s : Finset I} {i : I} (h : i ∉ s) (Φ : I → sProp 𝕄) :
    bigSep (insert i s) Φ = iprop(Φ i ∗ bigSep s Φ) := bigSep_insert h
theorem bigSep_or {I : Type} [DecidableEq I] {s t : Finset I} (h : Disjoint s t) (Φ : I → sProp 𝕄) :
    bigSep (s ∪ t) Φ = iprop(bigSep s Φ ∗ bigSep t Φ) := bigSep_union h

abbrev EP : Emb (UR sig nD τ) (MT nD τ sig Unit (Elt F) ℕ UU ℕ) := embL
abbrev ER : Emb UB (MT nD τ sig Unit (Elt F) ℕ UU ℕ) := embR
abbrev 𝒱₀ : Variants := Variants.none

abbrev sendL (c : Dev nD) : Loc nD τ sig := (c : Thread nD τ).loc cc0_scratch2
abbrev recvL (c : Dev nD) : Loc nD τ sig := (c : Thread nD τ).loc cc0_scratch3
abbrev accL (c : Dev nD) : Loc nD τ sig := (c : Thread nD τ).loc cc0_scratch4
abbrev amaxL (c : Dev nD) : Loc nD τ sig := (c : Thread nD τ).loc cc0_scratch5

/-- Credit of one product block, and of one block of running maxima. -/
abbrev NY : ℕ := ((recvM.slice (Rect.unit (s := S16x512x512) ![0, 0, 0] S1x512x512.size (by decide)) (fun _ => rfl)).squeeze S512x512 squeezes_S1x512x512_S512x512).view.dmaCredit
abbrev NA : ℕ := accM.view.dmaCredit
theorem NY_pos : 0 < NY := View.dmaCredit_pos _ (by decide)
theorem NA_pos : 0 < NA := View.dmaCredit_pos _ (by decide)

/-! ## Contents -/

section Contents
variable (X : Dev nD → Vec F S512x4096 .bf16) (Wt : Dev nD → Vec F S4096x8192 .bf16)

set_option backward.proofsInPublic true in
/-- Column block `k` of the weight of device `s`. -/
def wblk (s : Dev nD) (k : ℕ) : Vec F S4096x512 .bf16 := fun y =>
  Wt s (fun | 0 => y 0 | 1 => (⟨(k * 512 + (y 1).val) % 8192, Nat.mod_lt _ (by decide)⟩ : Fin 8192))

/-- What the weight buffer holds for that block. -/
def wb (s : Dev nD) (k : ℕ) : Vec F S4096x512 .bf16 := k0_pay3 (wblk Wt s k)

/-- The product block of device `s`'s rows and column block `k`, as it is sent. -/
def ybk (s : Dev nD) (k : ℕ) : Vec F S1x512x512 .bf16 := k0_pay1 (k0_pay11 (X s) (wb Wt s k))

/-- The running maxima of device `c` after `n` items. -/
def accAt (c : Dev nD) : ℕ → Vec F S8x128 .f32
  | 0 => k0_pay7
  | n + 1 => k0_pay10 (X c) (wb Wt c (itemBlk c n)) (accAt c n)

def sendBuf (c : Dev nD) : Vec F S14x512x512 .bf16 := fun y => ybk X Wt c (itemBlk c (y 0).val) (inSlot y)
def recvBuf (c : Dev nD) : Vec F S16x512x512 .bf16 := fun y => ybk X Wt (dv ((y 0).val / 2)) (2 * c.val + (y 0).val % 2) (inSlot y)
def amaxBuf (c : Dev nD) : Vec F S8x8x128 .f32 := fun y =>
  if (y 0).val = c.val then k0_pay8 y
  else accAt X Wt (dv (y 0).val) 16 ((Shape.reshapeEquiv (squeezes_S1x8x128_S8x128 : S1x8x128.Squeezes S8x128).numel_eq).symm (inSlot y))

/-! ## What each landing hands over -/

def sendPts (c : Dev nD) (j : ℕ) : sProp 𝕄 := sendL c ↦[slot 14 512 512 j]{fullShare} sendBuf X Wt c
def recvPts (c : Dev nD) (k : ℕ) : sProp 𝕄 := recvL c ↦[slot 16 512 512 k]{fullShare} recvBuf X Wt c
def accPts (c : Dev nD) (t : ℕ) : sProp 𝕄 := accL c ↦[Finset.univ]{Transfers.shareTokN fullShare t} accAt X Wt c 16
def amaxPts (c : Dev nD) (k : ℕ) : sProp 𝕄 := amaxL c ↦[slot 8 8 128 k]{fullShare} amaxBuf X Wt c

/-- The slots that device `d` lends to device `c`, with that its own cells for them are open. -/
def lend (d c : Dev nD) : sProp 𝕄 :=
  iprop((∃ f, recvL d ↦[slot 16 512 512 (2 * c.val)]{fullShare} f) ∗ (∃ f, recvL d ↦[slot 16 512 512 (2 * c.val + 1)]{fullShare} f)
    ∗ (∃ f, amaxL d ↦[slot 8 8 128 c.val]{fullShare} f)
    ∗ reached ER (dcell d (18 + 2 * c.val)) 0 ∗ reached ER (dcell d (18 + (2 * c.val + 1))) 0 ∗ reached ER (dcell d (42 + c.val)) 0)

def dpay (c : Dev nD) (q : ℕ) : sProp 𝕄 :=
  if q < 18 then sendPts X Wt c (q - 4) else if q < 34 then recvPts X Wt c (q - 18)
  else if q < 42 then accPts X Wt c (q - 34) else amaxPts X Wt c (q - 42)

def damt (q : ℕ) : ℕ := if q < 34 then NY else NA
theorem damt_pos (q : ℕ) : 0 < damt q := by unfold damt; split; exacts [NY_pos, NA_pos]

/-- One round: a barrier cell has one unit from each other device, a cell of a copy the one landing. -/
def Rd : Schedule (GSem nD τ sig) (Fin 8) 𝕄 where
  duties g r := match g.2 with
    | .reg s => if r = 0 ∧ g.1.2 = .tc ∧ s = barS then Finset.univ.erase g.1.1 else ∅
    | .dma q => if r = 0 ∧ g.1.2 = .tc ∧ 4 ≤ q.val then {0} else ∅
  unitless _ := False
  amount g _ _ := match g.2 with
    | .reg s => 1
    | .dma q => damt q.val
  payload g _ d := match g.2 with
    | .reg s => lend (F := F) d g.1.1
    | .dma q => dpay X Wt g.1.1 q.val
  amount_pos g _ _ _ := by
    rcases g with ⟨c, s | q⟩
    · exact Nat.one_pos
    · exact damt_pos _

instance (g : GSem nD τ sig) (r : ℕ) (d : Fin 8) : BI.Storable (upEmb : UEmb _ 𝕄) ((Rd X Wt).payload g r d) := by
  rcases g with ⟨c, s | q⟩
  · show BI.Storable upEmb (lend (F := F) d c.1); unfold lend; infer_instance
  · show BI.Storable upEmb (dpay X Wt c.1 q.val); unfold dpay sendPts recvPts accPts amaxPts
    (repeat' split) <;> infer_instance

theorem duties_bar (c : Dev nD) : (Rd X Wt).duties (barCell c) 0 = Finset.univ.erase c := by
  show (if 0 = 0 ∧ (c : Thread nD τ).2 = .tc ∧ barS = barS then Finset.univ.erase c else ∅) = _
  exact if_pos ⟨rfl, rfl, rfl⟩
theorem duties_dma (c : Dev nD) {q : ℕ} (h : 4 ≤ q) (h' : q < 50) : (Rd X Wt).duties (dcell c q) 0 = {0} :=
  if_pos ⟨rfl, rfl, by rw [dq_val h']; exact h⟩
theorem duties_later (g : GSem nD τ sig) : ∀ r, 1 ≤ r → (Rd X Wt).duties g r = ∅ := fun r hr => by
  rcases g with ⟨c, s | q⟩
  · exact if_neg fun h => by omega
  · exact if_neg fun h => by omega
theorem amount_dma (c : Dev nD) {q : ℕ} (h' : q < 50) (d : Fin 8) : (Rd X Wt).amount (dcell c q) 0 d = damt q := by
  show damt (dq q).val = _; rw [dq_val h']
theorem payload_dma (c : Dev nD) {q : ℕ} (h' : q < 50) (d : Fin 8) : (Rd X Wt).payload (dcell c q) 0 d = dpay X Wt c q := by
  show dpay X Wt c (dq q).val = _; rw [dq_val h']

theorem expect_dma (c : Dev nD) {q : ℕ} (h : 4 ≤ q) (h' : q < 50) : (Rd X Wt).expect (dcell c q) 0 = damt q := by
  unfold Schedule.expect Schedule.amountOf; rw [duties_dma X Wt c h h', Finset.sum_singleton, amount_dma X Wt c h']
theorem expect_bar (c : Dev nD) : (Rd X Wt).expect (barCell c) 0 = 7 := by
  unfold Schedule.expect Schedule.amountOf
  rw [duties_bar]
  show (∑ _d ∈ Finset.univ.erase c, 1) = 7
  rw [Finset.sum_const, Finset.card_erase_of_mem (Finset.mem_univ _)]
  rfl
theorem rest_dma (c : Dev nD) {q : ℕ} (h : 4 ≤ q) (h' : q < 50) :
    bigSep ((Rd X Wt).duties (dcell c q) 0 \ ∅) (fun d => (Rd X Wt).payload (dcell c q) 0 d) = dpay X Wt c q := by
  rw [Finset.sdiff_empty, duties_dma X Wt c h h', bigSep_singleton, payload_dma X Wt c h']
theorem rest_bar (c : Dev nD) :
    bigSep ((Rd X Wt).duties (barCell c) 0 \ ∅) (fun d => (Rd X Wt).payload (barCell c) 0 d) = bigSep (Finset.univ.erase c) (fun d : Dev nD => lend (F := F) d c) := by
  rw [Finset.sdiff_empty, duties_bar]; rfl

end Contents

/-! ## What a device owes, in the order it pays -/

/-- The payment that leaves `k` to make: seven signals, fourteen blocks, seven maxima. -/
def due (c : Dev nD) (k : ℕ) : GSem nD τ sig × ℕ :=
  if k < 7 then (dcell (sh c (7 - k)) (42 + c.val), NA)
  else if k < 21 then (dcell (sh c ((20 - k) / 2 + 1)) (18 + (2 * c.val + (20 - k) % 2)), NY)
  else (barCell (sh c (28 - k)), 1)

/-- What is owed when `k` payments are left. -/
def rem (c : Dev nD) : ℕ → CellTallies nD τ sig Unit
  | 0 => 0
  | k + 1 => rem c k + tallyAt (due c k).1 () (due c k).2

theorem rem_pos {c : Dev nD} {n : ℕ} {g : GSem nD τ sig} {u : Unit} (h : 0 < rem c n g u) : ∃ k, k < n ∧ g = (due c k).1 := by
  induction n with
  | zero => exact absurd h (Nat.lt_irrefl 0)
  | succ n ih =>
    unfold rem at h
    rw [Pi.add_apply, Finsupp.add_apply, tallyAt_apply] at h
    by_cases he : g = (due c n).1
    · exact ⟨n, Nat.lt_succ_self n, he⟩
    · rw [if_neg (fun h' => he h'.1), Nat.add_zero] at h
      obtain ⟨k, hk, e⟩ := ih h
      exact ⟨k, hk.trans (Nat.lt_succ_self n), e⟩

def L (g : GSem nD τ sig) : Finset Unit := if g.1.2 = .tc then {()} else ∅
/-- Barrier cells at 1, cells of arriving copies at 2, all others at 0. -/
def lv (g : GSem nD τ sig) (_ : Unit) : ℕ := match g.2 with
  | .reg _ => 1
  | .dma q => if (18 ≤ q.val ∧ q.val < 34) ∨ 42 ≤ q.val then 2 else 0

theorem L_tc (c : Dev nD) (sm : SemLoc sig) : L ((c : Thread nD τ), sm) = {()} := if_pos rfl
theorem L_of_ne (g : GSem nD τ sig) (h : g.1.2 ≠ .tc) : L g = ∅ := if_neg h
theorem due_L (c : Dev nD) (k : ℕ) : () ∈ L (due c k).1 := by
  unfold due; (repeat' split) <;> exact Finset.mem_singleton_self _
theorem due_lv (c : Dev nD) (k : ℕ) : 1 ≤ lv (due c k).1 () ∧ (k < 21 → 2 ≤ lv (due c k).1 ()) := by
  have h2 : ∀ q, q < 50 → ((18 ≤ q ∧ q < 34) ∨ 42 ≤ q) → ∀ d, lv (dcell d q) () = 2 := fun q h hq d => by
    show (if (18 ≤ (dq q).val ∧ (dq q).val < 34) ∨ 42 ≤ (dq q).val then 2 else 0) = 2
    rw [dq_val h, if_pos hq]
  have hc : c.val < 8 := c.isLt
  unfold due
  split
  · rw [h2 _ (by omega) (by omega)]; exact ⟨by decide, fun _ => le_rfl⟩
  · split
    · rw [h2 _ (by omega) (by omega)]; exact ⟨by decide, fun _ => le_rfl⟩
    · exact ⟨le_rfl, fun h => absurd h (by assumption)⟩

theorem mayWait_stage (c : Dev nD) (q : DmaSem sig) (hq : q.val < 18) (k : ℕ) :
    (levAts L lv : sProp 𝕄) ⊢ MayWait (c : Thread nD τ) (.dma q) () (rem c k) :=
  MayOwe.of_cut (L := L) (lev := lv) 0 (fun p hp => by rw [Finset.mem_singleton.mp hp, L_tc]; exact Finset.mem_singleton_self _)
    (fun g u hg => by obtain ⟨k, -, rfl⟩ := rem_pos hg; exact due_L c k)
    (fun p hp => by rw [Finset.mem_singleton.mp hp]; dsimp only [lv]; rw [if_neg (by omega)])
    (fun g u hg => by obtain ⟨k, -, rfl⟩ := rem_pos hg; exact (due_lv c k).1)

theorem mayWait_bar (c : Dev nD) : (levAts L lv : sProp 𝕄) ⊢ MayWait (c : Thread nD τ) (.reg barS) () (rem c 21) :=
  MayOwe.of_cut (L := L) (lev := lv) 1 (fun p hp => by rw [Finset.mem_singleton.mp hp, L_tc]; exact Finset.mem_singleton_self _)
    (fun g u hg => by obtain ⟨k, -, rfl⟩ := rem_pos hg; exact due_L c k)
    (fun p hp => by rw [Finset.mem_singleton.mp hp]; exact le_rfl)
    (fun g u hg => by obtain ⟨k, hk, rfl⟩ := rem_pos hg; exact (due_lv c k).2 hk)

end Cert.KernelIdeal.A2A

end
-- ==== Proof.Rules.lean ====
/- One rule for each kind of communication step: the signal to a peer, the wait for the peers, the copy of a product block,
   the copy of the running maxima, and the wait for a copy. -/
module

public import proofs.«01_k».proof.Proof.Proto

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .bf16) (Wt : Dev nD → Vec F S4096x8192 .bf16)

/-- The knowledge every step may use: the levels, every cell's invariant, every barrier cell open. -/
def recs : sProp 𝕄 :=
  iprop(levAts L lv ∗ bigSep Finset.univ (fun c : Dev nD => iprop((∃ κ, cellInv ER (Rd X Wt) κ (barCell c)) ∗ reached ER (barCell c) 0
    ∗ bigSep (Finset.Ico 4 50) (fun q => iprop(∃ κ, cellInv ER (Rd X Wt) κ (dcell c q))))))

instance recs_persistent : BI.Persistent (recs (F := F) X Wt) := by unfold recs; infer_instance

theorem recs_lev : recs X Wt ⊢ (levAts L lv : sProp 𝕄) := by unfold recs; iintro ⟨H, -⟩; iexact H
theorem recs_dev (c : Dev nD) : recs X Wt ⊢ iprop((∃ κ, cellInv ER (Rd X Wt) κ (barCell c)) ∗ reached ER (barCell c) 0
    ∗ bigSep (Finset.Ico 4 50) (fun q => iprop(∃ κ, cellInv ER (Rd X Wt) κ (dcell c q)))) := by
  unfold recs
  iintro ⟨-, H⟩
  ihave H' := (bigSep_at (Finset.mem_univ c) _) $$ H
  iexact H'
theorem recs_dma (c : Dev nD) {q : ℕ} (h : 4 ≤ q) (h' : q < 50) : recs X Wt ⊢ iprop(∃ κ, cellInv ER (Rd X Wt) κ (dcell c q)) := by
  refine (recs_dev X Wt c).trans ?_
  iintro ⟨-, -, H⟩
  ihave H' := (bigSep_at (Finset.mem_Ico.2 ⟨h, h'⟩) _) $$ H
  iexact H'

/-- Device `c` has `k` payments left. -/
def ow (c : Dev nD) (k : ℕ) : sProp 𝕄 := iprop(∃ W, owes (c : Thread nD τ) (rem c k) W)

/-- One slot of a buffer as a memref. -/
abbrev sendV (off : Fin 3 → ℕ) (inb : ∀ a, off a + S1x512x512.size a ≤ S14x512x512.size a) : Memref sig .tc .vmem S512x512 .bf16 :=
  (sendM.slice (Rect.unit (s := S14x512x512) off S1x512x512.size inb) (fun _ => rfl)).squeeze S512x512 squeezes_S1x512x512_S512x512
abbrev recvV (off : Fin 3 → ℕ) (inb : ∀ a, off a + S1x512x512.size a ≤ S16x512x512.size a) : Memref sig .tc .vmem S512x512 .bf16 :=
  (recvM.slice (Rect.unit (s := S16x512x512) off S1x512x512.size inb) (fun _ => rfl)).squeeze S512x512 squeezes_S1x512x512_S512x512
abbrev amaxV (off : Fin 3 → ℕ) (inb : ∀ a, off a + S1x8x128.size a ≤ S8x8x128.size a) : Memref sig .tc .vmem S8x128 .f32 :=
  (amaxM.slice (Rect.unit (s := S8x8x128) off S1x8x128.size inb) (fun _ => rfl)).squeeze S8x128 squeezes_S1x8x128_S8x128

section
variable (c : Dev nD)

theorem wait_dma {α : Type} {Q : α → sProp 𝕄} {k : PUnit → Prog (TpuEff nD τ sig (Elt F) Λ₀ .tc) α} {q : ℕ} (h : 4 ≤ q) (h' : q < 50) {sp sp' : Space} {s s' : Shape} {e e' : EltTy} {sem : DmaSem sig}
    {src : Memref sig .tc sp' s' e'} {dst : Memref sig .tc sp s e} {hsrc : src.view.WordExact} {hdst : dst.view.WordExact}
    (hs : sem = dq q) (hN : dst.view.dmaCredit = damt q) :
    iprop(recs X Wt ∗ ow c 0 ∗ cred (tallyAt (dcell c q) () (damt q)) ∗ atPos ER (dcell c q) 0 ∅ 0)
      ⊢ iprop(((ow c 0 ∗ semVal (dcell c q) 0 ∗ dpay X Wt c q) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hs
  unfold ow
  iintro ⟨#Hr, ⟨%W, HO⟩, Hc, Ha⟩ Hk
  ihave ⟨%κ, #Hi⟩ := (recs_dma X Wt c h h') $$ Hr
  rw [show rem c 0 = 0 from rfl]
  iapply (Rounds.wp_wait_rest_token 𝒱₀ ER (Rd X Wt) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_dma X Wt c h h'])) $$ [Hc HO Ha]
  · isplitr; · iexact Hi
    isplitl [Hc]; · rw [hN]; iexact Hc
    isplitl [HO]; · iexact HO
    isplitr; · rw [MayWait_zero]; iempintro
    iexact Ha
  iintro ⟨HO, Ha, -, Hp⟩
  imod (Rounds.cell_close ER (Rd X Wt) (Set.mem_univ κ) (fun h => h) (R := 0 + 1) (duties_later X Wt _)) $$ [Ha] with Hv
  · isplitr; · iexact Hi
    iexact Ha
  iapply Hk
  isplitl [HO]; · iexists _; iexact HO
  isplitl [Hv]; · iexact Hv
  iapply (Entails.of_eq (rest_dma X Wt c h h')); iexact Hp

theorem signal_peer {α : Type} {Q : α → sProp 𝕄} {k : PUnit → Prog (TpuEff nD τ sig (Elt F) Λ₀ .tc) α} {t : ℕ} (h : 1 ≤ t) (h' : t ≤ 7) {d : Dev nD} {sem : Sem sig} {k' : ℕ} (hd : d = sh c t) (hsem : sem = barS) (hk : 1 = k') :
    iprop(recs X Wt ∗ ow c (29 - t) ∗ dutyTok ER (barCell (sh c t)) 0 c ∗ lend (F := F) c (sh c t))
      ⊢ iprop((ow c (28 - t) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) sem k') k) Q) := by
  subst hd hsem hk
  unfold ow
  iintro ⟨#Hr, ⟨%W, HO⟩, Ht, Hl⟩ Hk
  ihave ⟨⟨%κ, #Hi⟩, #Hre, -⟩ := (recs_dev X Wt (sh c t)) $$ Hr
  have hrem : rem c (29 - t) = rem c (28 - t) + tallyAt (barCell (sh c t)) () 1 := by
    rw [show 29 - t = (28 - t) + 1 by omega, rem, due, if_neg (by omega), if_neg (by omega), show 28 - (28 - t) = t by omega]
  have hne : c ≠ sh c t := fun e => by
    have h1 := congrArg Fin.val e
    have h2 : c.val < 8 := c.isLt
    have h3 : (sh c t).val = (c.val + t) % 8 := rfl
    omega
  iapply (Rounds.wp_signal 𝒱₀ ER (Rd X Wt) (c : Thread nD τ) none (dst := (sh c t : Thread nD τ)) (κ := κ) (r := 0)
      (d := c) (by rw [duties_bar]; exact Finset.mem_erase.2 ⟨hne, Finset.mem_univ _⟩) rfl () (rem c (28 - t)) hrem)
    $$ [HO Ht Hl]
  · isplitr; · iexact Hi
    isplitl [HO]; · iexact HO
    isplitl [Ht]; · iexact Ht
    isplitl [Hl]; · iapply (Entails.of_eq (show lend (F := F) c (sh c t) = (Rd X Wt).payload (barCell (sh c t)) 0 c from rfl)); iexact Hl
    iexact Hre
  iintro HO
  iapply Hk
  iexists _; iexact HO

theorem wait_peers {α : Type} {Q : α → sProp 𝕄} {k : PUnit → Prog (TpuEff nD τ sig (Elt F) Λ₀ .tc) α} {sem : Sem sig} {k' : ℕ} (hsem : sem = barS) (hk : 7 = k') :
    iprop(recs X Wt ∗ ow c 21 ∗ cred (tallyAt (barCell c) () 7) ∗ atPos ER (barCell c) 0 ∅ 0)
      ⊢ iprop(((ow c 21 ∗ semVal (barCell c) 0 ∗ bigSep (Finset.univ.erase c) (fun d : Dev nD => lend (F := F) d c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hsem hk
  unfold ow
  iintro ⟨#Hr, ⟨%W, HO⟩, Hc, Ha⟩ Hk
  ihave ⟨⟨%κ, #Hi⟩, -, -⟩ := (recs_dev X Wt c) $$ Hr
  iapply (Rounds.wp_wait_rest_token 𝒱₀ ER (Rd X Wt) (c : Thread nD τ) none (κ := κ)
      (wpE_semWait_eq 𝒱₀ (c : Thread nD τ) none Set.univ) (Set.mem_univ _) () (O := rem c 21) (W := W) (R := 0) (m := 0) (T := ∅)
      (by rw [expect_bar])) $$ [Hc HO Ha]
  · isplitr; · iexact Hi
    isplitl [Hc]; · iexact Hc
    isplitl [HO]; · iexact HO
    isplitr; · iapply (mayWait_bar c); iapply (recs_lev X Wt); iexact Hr
    iexact Ha
  iintro ⟨HO, Ha, -, Hp⟩
  imod (Rounds.cell_close ER (Rd X Wt) (Set.mem_univ κ) (fun h => h) (R := 0 + 1) (duties_later X Wt _)) $$ [Ha] with Hv
  · isplitr; · iexact Hi
    iexact Ha
  iapply Hk
  isplitl [HO]; · iexists _; iexact HO
  isplitl [Hv]; · iexact Hv
  iapply (Entails.of_eq (rest_bar X Wt c)); iexact Hp

/-- What item `j`'s copy needs of the target: the lent slot, and the two duties. -/
def copyRes (c : Dev nD) (j : ℕ) : sProp 𝕄 :=
  iprop((∃ f, recvL (sh c (j / 2 + 1)) ↦[slot 16 512 512 (2 * c.val + j % 2)]{fullShare} f)
    ∗ dutyTok ER (dcell c (4 + j)) 0 0 ∗ reached ER (dcell c (4 + j)) 0
    ∗ dutyTok ER (dcell (sh c (j / 2 + 1)) (18 + (2 * c.val + j % 2))) 0 0
    ∗ reached ER (dcell (sh c (j / 2 + 1)) (18 + (2 * c.val + j % 2))) 0)

theorem send_recv (c : Dev nD) {j : ℕ} (hj : j < 14) {y : S16x512x512.Idx} (hy : (y 0).val = 2 * c.val + j % 2) :
    ybk X Wt c (itemBlk c j) (inSlot y) = recvBuf X Wt (sh c (j / 2 + 1)) y := by
  unfold recvBuf itemBlk
  rw [hy]
  have hc : c.val < 8 := c.isLt
  have h1 : dv ((2 * c.val + j % 2) / 2) = c := Fin.ext (show ((2 * c.val + j % 2) / 2) % 8 = c.val by omega)
  rw [h1, show (2 * c.val + j % 2) % 2 = j % 2 by omega]

set_option maxHeartbeats 2000000 in
theorem send_item {α : Type} {Q : α → sProp 𝕄} {k : PUnit → Prog (TpuEff nD τ sig (Elt F) Λ₀ .tc) α} {j : ℕ} (hj : j < 14) {d : Dev nD} {offs offd : Fin 3 → ℕ} {s1 s2 : DmaSem sig}
    (hd : d = sh c (j / 2 + 1)) (ho : offs = ![j, 0, 0]) (ho' : offd = ![2 * c.val + j % 2, 0, 0])
    (hs1 : s1 = dq (4 + j)) (hs2 : s2 = dq (18 + (2 * c.val + j % 2)))
    {inbs} {inbd}
    {hsc : (recvV offd inbd : Memref sig (Dev.tc d : Thread nD τ).2.kind .vmem S512x512 .bf16).view.ref.isScScratch = false}
    {hsrc : (sendV offs inbs).view.WordExact}
    {hdst : (recvV offd inbd).view.WordExact}
    {hsem : DmaTarget.Typed .vmem (.dma s2) (.remote (Dev.tc d : Thread nD τ) (recvV offd inbd : Memref sig .tc .vmem S512x512 .bf16) (.dma s1) hsc)} :
    iprop(recs X Wt ∗ ow c (21 - j) ∗ sendPts X Wt c j ∗ copyRes (F := F) c j)
      ⊢ iprop(((ow c (20 - j) ∗ cred (tallyAt (dcell c (4 + j)) () NY)) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (sendV offs inbs)
              (.remote (Dev.tc d : Thread nD τ) (recvV offd inbd) (.dma s1) hsc) (.dma s2) hsrc hdst hsem) k) Q) := by
  subst hd hs1 hs2
  have hc : c.val < 8 := c.isLt
  have hrem : rem c (21 - j) = rem c (20 - j) + tallyAt (dcell (sh c (j / 2 + 1)) (18 + (2 * c.val + j % 2))) () NY := by
    rw [show 21 - j = (20 - j) + 1 by omega, rem, due, if_neg (by omega), if_pos (by omega), show 20 - (20 - j) = j by omega]
  have hset1 : (sendV offs inbs).view.set = slot 14 512 512 j :=
    (View.set_reshape _ _).trans (send_set ho inbs)
  have hset2 : (recvV offd inbd).view.set = slot 16 512 512 (2 * c.val + j % 2) :=
    (View.set_reshape _ _).trans (recv_set ho' inbd)
  unfold ow sendPts copyRes
  iintro ⟨#Hr, ⟨%W, HO⟩, Hs, ⟨%f, Hd⟩, Ht1, #Hr1, Ht2, #Hr2⟩ Hk
  ihave ⟨%κ1, #Hi1⟩ := (recs_dma X Wt c (q := 4 + j) (by omega) (by omega)) $$ Hr
  ihave ⟨%κ2, #Hi2⟩ := (recs_dma X Wt (sh c (j / 2 + 1)) (q := 18 + (2 * c.val + j % 2)) (by omega) (by omega)) $$ Hr
  iapply (Rounds.wp_send_pointsTo 𝒱₀ ER (Rd X Wt) (c : Thread nD τ) none (κ₁ := κ1) (κ₂ := κ2) (q := fullShare)
    (c' := (sh c (j / 2 + 1) : Thread nD τ)) (src := sendV offs inbs) (dst := recvV offd inbd)
    (r₁ := 0) (r₂ := 0) (d₁ := 0) (d₂ := 0) (fs := sendBuf X Wt c) (fd := f)
    (by rw [duties_dma X Wt c (by omega) (by omega)]; exact Finset.mem_singleton_self _)
    (by rw [duties_dma X Wt _ (by omega) (by omega)]; exact Finset.mem_singleton_self _)
    () () NY rfl
    ((amount_dma X Wt c (by omega) 0).trans (if_pos (by omega)))
    ((amount_dma X Wt _ (by omega) 0).trans (if_pos (by omega)))
    (rem c (20 - j)) hrem (W := W)
    (by rw [payload_dma X Wt c (by omega), hset1]; unfold dpay; rw [if_pos (by omega), show 4 + j - 4 = j by omega]; exact .rfl)
    (by
      rw [payload_dma X Wt _ (by omega), hset2]; unfold dpay recvPts
      rw [if_neg (by omega), if_pos (by omega), show 18 + (2 * c.val + j % 2) - 18 = 2 * c.val + j % 2 by omega]
      refine Entails.of_eq (pointsTo_congr fun y hy => ?_)
      refine (send_land ho ho' inbs inbd f (sendBuf X Wt c) (ybk X Wt c (itemBlk c j)) (fun z hz => ?_) y (mem_slot.1 hy)).trans (send_recv X Wt c hj (mem_slot.1 hy))
      unfold sendBuf; rw [hz])) $$ [HO Hs Hd Ht1 Ht2]
  · isplitr; · iexact Hi1
    isplitr; · iexact Hi2
    isplitl [Hs]; · rw [hset1]; iexact Hs
    isplitl [Hd]; · rw [hset2]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  iexact Hc

/-- What the copy of the maxima to the device `t` places on needs. -/
def amaxRes (c : Dev nD) (t : ℕ) : sProp 𝕄 :=
  iprop((∃ f, amaxL (sh c t) ↦[slot 8 8 128 c.val]{fullShare} f)
    ∗ dutyTok ER (dcell c (34 + t)) 0 0 ∗ reached ER (dcell c (34 + t)) 0
    ∗ dutyTok ER (dcell (sh c t) (42 + c.val)) 0 0 ∗ reached ER (dcell (sh c t) (42 + c.val)) 0)

set_option maxHeartbeats 2000000 in
theorem send_amax {α : Type} {Q : α → sProp 𝕄} {k : PUnit → Prog (TpuEff nD τ sig (Elt F) Λ₀ .tc) α} {t : ℕ} (ht : 1 ≤ t) (ht' : t ≤ 7) {d : Dev nD} {off : Fin 3 → ℕ} {s1 s2 : DmaSem sig}
    (hd : d = sh c t) (ho : off = ![c.val, 0, 0]) (hs1 : s1 = dq (34 + t)) (hs2 : s2 = dq (42 + c.val))
    {inb}
    {hsc : (amaxV off inb : Memref sig (Dev.tc d : Thread nD τ).2.kind .vmem S8x128 .f32).view.ref.isScScratch = false}
    {hsrc : (accM).view.WordExact}
    {hdst : (amaxV off inb).view.WordExact}
    {hsem : DmaTarget.Typed .vmem (.dma s2) (.remote (Dev.tc d : Thread nD τ) (amaxV off inb : Memref sig .tc .vmem S8x128 .f32) (.dma s1) hsc)} :
    iprop(recs X Wt ∗ ow c (8 - t) ∗ accPts X Wt c t ∗ amaxRes (F := F) c t)
      ⊢ iprop(((ow c (7 - t) ∗ cred (tallyAt (dcell c (34 + t)) () NA)) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma accM
              (.remote (Dev.tc d : Thread nD τ) (amaxV off inb) (.dma s1) hsc) (.dma s2) hsrc hdst hsem) k) Q) := by
  subst hd hs1 hs2
  have hc : c.val < 8 := c.isLt
  have hrem : rem c (8 - t) = rem c (7 - t) + tallyAt (dcell (sh c t) (42 + c.val)) () NA := by
    rw [show 8 - t = (7 - t) + 1 by omega, rem, due, if_pos (by omega), show 7 - (7 - t) = t by omega]
  have hset2 : (amaxV off inb).view.set = slot 8 8 128 c.val :=
    (View.set_reshape _ _).trans (amax_set ho inb)
  have hset1 : (accM).view.set = Finset.univ := View.set_whole _
  unfold ow accPts amaxRes
  iintro ⟨#Hr, ⟨%W, HO⟩, Hs, ⟨%f, Hd⟩, Ht1, #Hr1, Ht2, #Hr2⟩ Hk
  ihave ⟨%κ1, #Hi1⟩ := (recs_dma X Wt c (q := 34 + t) (by omega) (by omega)) $$ Hr
  ihave ⟨%κ2, #Hi2⟩ := (recs_dma X Wt (sh c t) (q := 42 + c.val) (by omega) (by omega)) $$ Hr
  iapply (Rounds.wp_send_pointsTo 𝒱₀ ER (Rd X Wt) (c : Thread nD τ) none (κ₁ := κ1) (κ₂ := κ2) (q := Transfers.shareTokN fullShare t)
    (c' := (sh c t : Thread nD τ)) (src := accM) (dst := amaxV off inb)
    (r₁ := 0) (r₂ := 0) (d₁ := 0) (d₂ := 0) (fs := accAt X Wt c 16) (fd := f)
    (by rw [duties_dma X Wt c (by omega) (by omega)]; exact Finset.mem_singleton_self _)
    (by rw [duties_dma X Wt _ (by omega) (by omega)]; exact Finset.mem_singleton_self _)
    () () NA rfl
    ((amount_dma X Wt c (by omega) 0).trans (if_neg (by omega)))
    ((amount_dma X Wt _ (by omega) 0).trans (if_neg (by omega)))
    (rem c (7 - t)) hrem (W := W)
    (by
      rw [payload_dma X Wt c (by omega), hset1]; unfold dpay accPts
      rw [if_neg (by omega), if_neg (by omega), if_pos (by omega), show 34 + t - 34 = t by omega])
    (by
      rw [payload_dma X Wt _ (by omega), hset2]; unfold dpay amaxPts
      rw [if_neg (by omega), if_neg (by omega), if_neg (by omega), show 42 + c.val - 42 = c.val by omega]
      refine Entails.of_eq (pointsTo_congr fun y hy => ?_)
      refine (amax_land ho inb f (accAt X Wt c 16) y (mem_slot.1 hy)).trans ?_
      have hy0 := mem_slot.1 hy
      have h3 : (sh c t).val = (c.val + t) % 8 := rfl
      have h4 : dv (y 0).val = c := Fin.ext (show (y 0).val % 8 = c.val by omega)
      unfold amaxBuf; rw [if_neg (by omega), h4])) $$ [HO Hs Hd Ht1 Ht2]
  · isplitr; · iexact Hi1
    isplitr; · iexact Hi2
    isplitl [Hs]; · rw [hset1]; iexact Hs
    isplitl [Hd]; · rw [hset2]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  iexact Hc

end

end Cert.KernelIdeal.A2A

end
-- ==== Proof.Facts.lean ====
module

public import proofs.«01_k».proof.Proof.Proto

@[expose] public section

noncomputable section

open Cert.KernelIdeal Cert.KernelIdeal.Gen
open Idealize.ShloMosaic Idealize.ShloMosaic.TcCoe

namespace Cert.KernelIdeal.A2A

variable {F : FTy → Type} [FloatOps F]

/-- The table of targets on device `c`: entry `z` is the device `z + 1` steps ahead. -/
def tb (c : Dev nD) : Vec F S8 .i32 := fun z => BitVec.ofNat 32 ((c.val + (z 0).val + 1) % 8)

/-- The prefetched tables' contents on device `c`. -/
def tabC (c : Dev nD) : pre0.Contents (Elt F) := fun
  | 0 => tb c
  | ⟨_ + 1, h⟩ => absurd h (Nat.not_lt.2 (Nat.le_add_left _ _))

theorem tr1 (c : Dev nD) (t : Fin grid0.N) :
    cc0_transform_1 Facts₀.k0_off1_inb Facts₀.numel1_S1 (tabC (F := F) c) (grid0.coords t) = ![0, itemBlk c (min t.val 15)] := by
  unfold cc0_transform_1
  dsimp only [Pipeline.Prefetch.Contents.at, tabC, tb, itemBlk, sh, dv]
  revert c t
  decide +kernel

theorem ok_tab (c : Dev nD) : ok0 (tabC (F := F) c) := by
  intro i
  obtain ⟨t, rfl⟩ : ∃ t : Fin grid0.N, grid0.coords t = i := by revert i; decide +kernel
  have h16 : ∀ c : Dev nD, ∀ t : Fin grid0.N, itemBlk c (min t.val 15) < 16 := by decide +kernel
  have hk : ∀ k : Fin 16, ∃ h : (∀ a, ((![0, k.val] : Fin 2 → ℕ) a + 1) * S4096x512.size a ≤ S4096x8192.size a),
      (Rect.block (s := S4096x8192) S4096x512.size ![0, k.val] h).WholeWords (EltTy.packing .bf16) := by decide +kernel
  obtain ⟨h, hw⟩ := hk ⟨_, h16 c t⟩
  have e := tr1 (F := F) c t
  generalize cc0_transform_1 Facts₀.k0_off1_inb Facts₀.numel1_S1 (tabC (F := F) c) (grid0.coords t) = X at e ⊢
  subst e
  exact ⟨h, .inr hw⟩

theorem cond1_iff (t : Fin grid0.N) : k0_cond1 (grid0.coords t) = 1#1 ↔ t.val = 0 := by revert t; decide +kernel
theorem cond2_iff (t : Fin grid0.N) : k0_cond2 (grid0.coords t) = 1#1 ↔ t.val % 2 = 0 := by revert t; decide +kernel
theorem cond3_iff (t : Fin grid0.N) : k0_cond3 (grid0.coords t) = 1#1 ↔ 2 ≤ t.val := by revert t; decide +kernel
theorem cond4_iff (t : Fin grid0.N) (h : t.val % 2 = 0) : k0_cond4 (grid0.coords t) = 1#1 ↔ t.val < 15 := by revert t; decide +kernel
theorem cond5_iff (t : Fin grid0.N) (h : t.val % 2 = 0) : k0_cond5 (grid0.coords t) = 1#1 ↔ 15 ≤ t.val := by revert t; decide +kernel
theorem cond7_iff (t : Fin grid0.N) : k0_cond7 (grid0.coords t) = 1#1 ↔ t.val % 2 = 1 := by revert t; decide +kernel
theorem cond8_iff (t : Fin grid0.N) (h : t.val % 2 = 1) : k0_cond8 (grid0.coords t) = 1#1 ↔ t.val < 15 := by revert t; decide +kernel
theorem cond9_iff (t : Fin grid0.N) (h : t.val % 2 = 1) : k0_cond9 (grid0.coords t) = 1#1 ↔ 15 ≤ t.val := by revert t; decide +kernel
theorem cond10_iff (t : Fin grid0.N) : k0_cond10 (grid0.coords t) = 1#1 ↔ t.val = 16 := by revert t; decide +kernel

/-! The places of step `t`'s item, `t - 1`. -/
theorem off2_at (t : Fin grid0.N) (h : t.val % 2 = 0) (h' : 1 ≤ t.val) : k0_off2 (grid0.coords t) = ![(t.val - 1) / 2] := by revert t; decide +kernel
theorem off3_at (t : Fin grid0.N) (h : t.val % 2 = 0) (h' : 1 ≤ t.val) : k0_off3 (grid0.coords t) = ![t.val - 1, 0, 0] := by revert t; decide +kernel
theorem off4_at (t : Fin grid0.N) (h : t.val % 2 = 0) (h' : 1 ≤ t.val) : k0_off4 (grid0.coords t) = ![t.val - 1] := by revert t; decide +kernel
theorem off5_at (t : Fin grid0.N) (h : t.val % 2 = 0) (h' : 1 ≤ t.val) (c : Dev nD) : k0_off5 (grid0.coords t) c = ![2 * c.val + (t.val - 1) % 2] := by revert t c; decide +kernel
theorem off6_at (t : Fin grid0.N) (h : t.val % 2 = 0) (h' : 1 ≤ t.val) (c : Dev nD) : k0_off6 (grid0.coords t) c = ![2 * c.val + (t.val - 1) % 2, 0, 0] := by revert t c; decide +kernel
theorem off7_at (t : Fin grid0.N) (h : t.val % 2 = 0) (h' : 1 ≤ t.val) : k0_off7 (grid0.coords t) = ![t.val - 1, 0, 0] := by revert t; decide +kernel
theorem off8_at (t : Fin grid0.N) (h : t.val % 2 = 0) (h' : 1 ≤ t.val) (c : Dev nD) : k0_off8 (grid0.coords t) c = ![2 * c.val + (t.val - 1) % 2, 0, 0] := by revert t c; decide +kernel
theorem off9_at (t : Fin grid0.N) (h : t.val % 2 = 1) : k0_off9 (grid0.coords t) = ![(t.val - 1) / 2] := by revert t; decide +kernel
theorem off10_at (t : Fin grid0.N) (h : t.val % 2 = 1) : k0_off10 (grid0.coords t) = ![t.val - 1, 0, 0] := by revert t; decide +kernel
theorem off11_at (t : Fin grid0.N) (h : t.val % 2 = 1) : k0_off11 (grid0.coords t) = ![t.val - 1] := by revert t; decide +kernel
theorem off12_at (t : Fin grid0.N) (h : t.val % 2 = 1) (c : Dev nD) : k0_off12 (grid0.coords t) c = ![2 * c.val + (t.val - 1) % 2] := by revert t c; decide +kernel
theorem off13_at (t : Fin grid0.N) (h : t.val % 2 = 1) (c : Dev nD) : k0_off13 (grid0.coords t) c = ![2 * c.val + (t.val - 1) % 2, 0, 0] := by revert t c; decide +kernel
theorem off14_at (t : Fin grid0.N) (h : t.val % 2 = 1) : k0_off14 (grid0.coords t) = ![t.val - 1, 0, 0] := by revert t; decide +kernel
theorem off15_at (t : Fin grid0.N) (h : t.val % 2 = 1) (c : Dev nD) : k0_off15 (grid0.coords t) c = ![2 * c.val + (t.val - 1) % 2, 0, 0] := by revert t c; decide +kernel

theorem dev8_at (c : Dev nD) (j : Fin 14) :
    k0_dev8 (BitVec.ofNat 32 ((c.val + j.val / 2 + 1) % 8)) = (sh c (j.val / 2 + 1)).val := by revert c j; decide +kernel
theorem dev9_at (c : Dev nD) (j : Fin 14) :
    k0_dev9 (BitVec.ofNat 32 ((c.val + j.val / 2 + 1) % 8)) = (sh c (j.val / 2 + 1)).val := by revert c j; decide +kernel

theorem dev8_small (c : Dev nD) (t : Fin grid0.N) : k0_dev8 (BitVec.ofNat 32 ((c.val + (t.val - 1) / 2 + 1) % 8)) < nD := by revert c t; decide +kernel
theorem dev9_small (c : Dev nD) (t : Fin grid0.N) : k0_dev9 (BitVec.ofNat 32 ((c.val + (t.val - 1) / 2 + 1) % 8)) < nD := by revert c t; decide +kernel

end Cert.KernelIdeal.A2A
-- ==== Proof.Steps.lean ====
/- The steps of the body that touch one device alone: whole-buffer loads and stores, the table of targets, one item's product
   and running maximum, and what is done with the product block. -/
module

public import proofs.«01_k».proof.Proof.Rules
public import proofs.«01_k».proof.Proof.Facts

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Program `p` run by device `c` ends in `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem run_ret (c : Dev nD) {α : Type} {a : α} {Q : α → sProp 𝕄} : Q a ⊢ run c (.ret a) Q := by
  unfold run
  rw [wp_ret]
  iintro H
  imodintro
  iexact H

/-- A whole buffer named by a memref. -/
abbrev own (c : Dev nD) {sp : Space} {s : Shape} {e : EltTy} (m : Memref sig .tc sp s e) (f : s.Idx → Elt F e) : sProp 𝕄 :=
  owns (c : Thread nD τ) m fullShare f

theorem load_all (c : Dev nD) {α : Type} {Q : α → sProp 𝕄} {cs : CoreSpace} {s : Shape} {e : EltTy} {m : Memref sig .tc cs s e} (hm : m.IsWhole)
    {off : Fin s.rank → ℕ} (h0 : off = fun _ => 0) {inb} {hl : m.view.LoadsAt (Rect.unit off s.size inb).toLoadRect}
    {k : (s.Idx → Elt F e) → Prog (TpuEff nD τ sig (Elt F) Λ₀ .tc) α} (f : s.Idx → Elt F e) :
    own c m f ⊢ iprop((own c m f -∗ run c (k f) Q) -∗ run c (.op (.load m (Rect.unit off s.size inb).toLoadRect hl) k) Q) := by
  obtain ⟨b, hsp, rfl, rfl, he⟩ := hm
  obtain ⟨cs', i, hκ⟩ := b
  cases hsp
  cases he
  unfold own
  rw [owns_whole]
  iintro H Hk
  iapply (wp_load 𝒱₀ (c : Thread nD τ) none Set.univ (m := Memref.whole ⟨.core cs, i, hκ⟩) (Finset.subset_univ _)) $$ H
  rw [Memref.readAt_unit_zero (Elt F) ⟨.core cs, i, hκ⟩ h0]
  iexact Hk

theorem store_all (c : Dev nD) {α : Type} {Q : α → sProp 𝕄} {cs : CoreSpace} {s : Shape} {e : EltTy} {m : Memref sig .tc cs s e} (hm : m.IsWhole)
    {off : Fin s.rank → ℕ} (h0 : off = fun _ => 0) {inb} {w : s.Idx → Elt F e} {hx : (m.access (Rect.unit off s.size inb)).Stores Finset.univ} {hm'}
    {k : PUnit → Prog (TpuEff nD τ sig (Elt F) Λ₀ .tc) α} (f : s.Idx → Elt F e) :
    own c m f ⊢ iprop((own c m w -∗ run c (k ⟨⟩) Q) -∗ run c (.op (.store m (Rect.unit off s.size inb) w Finset.univ hx hm') k) Q) := by
  obtain ⟨b, hsp, rfl, rfl, he⟩ := hm
  obtain ⟨cs', i, hκ⟩ := b
  cases hsp
  cases he
  unfold own
  rw [owns_whole, owns_whole]
  iintro H Hk
  iapply (wp_store 𝒱₀ (c : Thread nD τ) none Set.univ (m := Memref.whole ⟨.core cs, i, hκ⟩) (r := Rect.unit off (⟨.core cs, i, hκ⟩ : Ref sig .tc).ty.shape.size inb) (Mk := Finset.univ) (Finset.subset_univ _)) $$ H
  rw [Memref.write_access_unit_zero_univ (Elt F) ⟨.core cs, i, hκ⟩ h0]
  iexact Hk

theorem zero2 : (![0, 0] : Fin 2 → ℕ) = fun _ => 0 := by decide
theorem zero3 : (![0, 0, 0] : Fin 3 → ℕ) = fun _ => 0 := by decide

/-- The table of targets, held whole. -/
def tab (c : Dev nD) : sProp 𝕄 := ((c : Thread nD τ).loc main_v8) ↦{fullShare} (tb (F := F) c : Vec F S8 .i32)

theorem load_table (c : Dev nD) {Q : Elt F .i32 → sProp 𝕄} {off : Fin 1 → ℕ} {z : ℕ} (ho : off = ![z]) {inb} {h1} {hp} :
    tab (F := F) c ⊢ iprop((tab (F := F) c -∗ Q (BitVec.ofNat 32 ((c.val + z + 1) % 8)))
      -∗ run c (smemLoad (Memref.whole main_v8 : Memref sig .tc .smem S8 .i32) (Rect.unit (s := S8) off S1.size inb) h1 hp) Q) := by
  subst ho
  unfold tab smemLoad
  iintro H Hk
  iapply (wp_smemLoadElt 𝒱₀ (c : Thread nD τ) none Set.univ (m := (Memref.whole main_v8 : Memref sig .tc .smem S8 .i32)) (r := Rect.unit (s := S8) ![z] S1.size inb)
    (S := Finset.univ) (q := fullShare) (f := tb (F := F) c) (Finset.subset_univ _)) $$ H
  iintro H
  rw [wp_ret]
  imodintro
  ihave Hq := Hk $$ H
  have e : (((Memref.whole main_v8 : Memref sig .tc .smem S8 .i32).access (Rect.unit (s := S8) ![z] S1.size inb)).read (Elt F) (tb (F := F) c)
      (Shape.Idx.first (h1.symm ▸ Nat.one_pos)) : BitVec 32) = BitVec.ofNat 32 ((c.val + z + 1) % 8) := by
    show BitVec.ofNat 32 ((c.val + (z + 1 * _) + 1) % 8) = _
    have h : ∀ y : S1.Idx, (y 0).val = 0 := fun y => Nat.lt_one_iff.1 (y 0).isLt
    exact congrArg (fun u => BitVec.ofNat 32 ((c.val + u + 1) % 8)) (by rw [show ∀ u, z + 1 * u = z + u from fun u => by rw [Nat.one_mul]]; exact (congrArg (z + ·) (h _)))
  rw [e]
  iexact Hq

section Items
variable (X : Dev nD → Vec F S512x4096 .bf16) (Wt : Dev nD → Vec F S4096x8192 .bf16) (c : Dev nD)

theorem part3_run (t : Fin grid0.N) (h2 : t.val % 2 = 1) (m2 h2' m3 h3 m4 h4 d0 g1)
    {Q : (Σ' (v33 : BitVec 32) (v35 : BitVec 32) (v37 : Elt F .i32) (k0_hw2 : k0_chk2 (grid0.coords t) v37), FVec F S512x512 .bf16) → sProp 𝕄}
    (x : Vec F S512x4096 .bf16) (w : Vec F S4096x512 .bf16) (a : Vec F S8x128 .f32) :
    iprop(tab (F := F) c ∗ own c m2 x ∗ own c (Memref.whole cc0_scratch0 : Memref sig .tc .vmem S4096x512 .bf16) w ∗ own c accM a)
    ⊢ iprop(((tab (F := F) c ∗ own c m2 x ∗ own c (Memref.whole cc0_scratch0 : Memref sig .tc .vmem S4096x512 .bf16) w ∗ own c accM (k0_pay10 x w a)) -∗
        ∀ r, ⌜r.2.2.1 = BitVec.ofNat 32 ((c.val + (t.val - 1) / 2 + 1) % 8) ∧ r.2.2.2.2 = k0_pay11 x w⌝ -∗ Q r)
      -∗ run c (k0_part3 (F := F) (grid0.coords t) (Memref.whole main_v8) (Memref.isWhole_whole _) m2 h2' m3 h3 m4 h4
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 d0 g1) Q) := by
  have hchk : k0_chk2 (grid0.coords t) (BitVec.ofNat 32 ((c.val + (t.val - 1) / 2 + 1) % 8)) := fun _ _ => dev9_small c t
  simp only [k0_part3_eq_skeleton]
  unfold k0_part3_skel
  iintro ⟨Ht, Hx, Hw, Ha⟩ Hk
  unfold run
  rw [wp_bind]
  iapply (load_table c (off9_at t h2)) $$ Ht
  iintro Ht
  simp only [Prog.lift, Prog.bind_op, Prog.bind_ret, Prog.pure_eq_ret]
  iapply (wp_assume 𝒱₀ (c : Thread nD τ) none Set.univ hchk)
  iapply (load_all c h2' zero2 x) $$ Hx
  iintro Hx
  iapply (load_all c (Memref.isWhole_whole _) zero2 w) $$ Hw
  iintro Hw
  iapply (load_all c (Memref.isWhole_whole _) zero2 a) $$ Ha
  iintro Ha
  iapply (load_all c (Memref.isWhole_whole _) zero2 a) $$ Ha
  iintro Ha
  iapply (store_all c (Memref.isWhole_whole _) zero2 a) $$ Ha
  iintro Ha
  iapply run_ret
  ihave Hk := Hk $$ [Ht Hx Hw Ha]
  · isplitl [Ht]; · iexact Ht
    isplitl [Hx]; · iexact Hx
    isplitl [Hw]; · iexact Hw
    iexact Ha
  iapply Hk
  ipureintro
  exact ⟨rfl, rfl⟩

theorem part2_run (t : Fin grid0.N) (h2 : t.val % 2 = 0) (h1 : 1 ≤ t.val) (m2 h2' m3 h3 m4 h4 d0 g1 g2)
    {Q : (Σ' (v39 : BitVec 32) (v41 : BitVec 32) (v43 : Elt F .i32) (k0_hw1 : k0_chk1 (grid0.coords t) v43), FVec F S512x512 .bf16) → sProp 𝕄}
    (x : Vec F S512x4096 .bf16) (w : Vec F S4096x512 .bf16) (a : Vec F S8x128 .f32) :
    iprop(tab (F := F) c ∗ own c m2 x ∗ own c (Memref.whole cc0_scratch1 : Memref sig .tc .vmem S4096x512 .bf16) w ∗ own c accM a)
    ⊢ iprop(((tab (F := F) c ∗ own c m2 x ∗ own c (Memref.whole cc0_scratch1 : Memref sig .tc .vmem S4096x512 .bf16) w ∗ own c accM (k0_pay10 x w a)) -∗
        ∀ r, ⌜r.2.2.1 = BitVec.ofNat 32 ((c.val + (t.val - 1) / 2 + 1) % 8) ∧ r.2.2.2.2 = k0_pay11 x w⌝ -∗ Q r)
      -∗ run c (k0_part2 (F := F) (grid0.coords t) (Memref.whole main_v8) (Memref.isWhole_whole _) m2 h2' m3 h3 m4 h4
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 d0 g1 g2) Q) := by
  have hchk : k0_chk1 (grid0.coords t) (BitVec.ofNat 32 ((c.val + (t.val - 1) / 2 + 1) % 8)) := fun _ _ _ => dev8_small c t
  simp only [k0_part2_eq_skeleton]
  unfold k0_part2_skel
  iintro ⟨Ht, Hx, Hw, Ha⟩ Hk
  unfold run
  rw [wp_bind]
  iapply (load_table c (off2_at t h2 h1)) $$ Ht
  iintro Ht
  simp only [Prog.lift, Prog.bind_op, Prog.bind_ret, Prog.pure_eq_ret]
  iapply (wp_assume 𝒱₀ (c : Thread nD τ) none Set.univ hchk)
  iapply (load_all c h2' zero2 x) $$ Hx
  iintro Hx
  iapply (load_all c (Memref.isWhole_whole _) zero2 w) $$ Hw
  iintro Hw
  iapply (load_all c (Memref.isWhole_whole _) zero2 a) $$ Ha
  iintro Ha
  iapply (load_all c (Memref.isWhole_whole _) zero2 a) $$ Ha
  iintro Ha
  iapply (store_all c (Memref.isWhole_whole _) zero2 a) $$ Ha
  iintro Ha
  iapply run_ret
  ihave Hk := Hk $$ [Ht Hx Hw Ha]
  · isplitl [Ht]; · iexact Ht
    isplitl [Hx]; · iexact Hx
    isplitl [Hw]; · iexact Hw
    iexact Ha
  iapply Hk
  ipureintro
  exact ⟨rfl, rfl⟩

/-- A finished block into its sending slot, and its copy to the device it is for. -/
theorem send_slot {α : Type} {Q : α → sProp 𝕄} {k : PUnit → Prog (TpuEff nD τ sig (Elt F) Λ₀ .tc) α} {j : ℕ} (hj : j < 14) {d : Dev nD} {off offs offd : Fin 3 → ℕ} {s1 s2 : DmaSem sig}
    (hd : d = sh c (j / 2 + 1)) (ho0 : off = ![j, 0, 0]) (ho : offs = ![j, 0, 0]) (ho' : offd = ![2 * c.val + j % 2, 0, 0])
    (hs1 : s1 = dq (4 + j)) (hs2 : s2 = dq (18 + (2 * c.val + j % 2)))
    {w : Vec F S1x512x512 .bf16} (hw : w = ybk X Wt c (itemBlk c j))
    {inb} {inbs} {inbd}
    {hl : sendM.view.LoadsAt (Rect.unit (s := S14x512x512) off S1x512x512.size inb).toLoadRect}
    {hx : (sendM.access (Rect.unit (s := S14x512x512) off S1x512x512.size inb)).Stores Finset.univ} {hm}
    {hsc : (recvV offd inbd : Memref sig (Dev.tc d : Thread nD τ).2.kind .vmem S512x512 .bf16).view.ref.isScScratch = false}
    {hsrc : (sendV offs inbs).view.WordExact}
    {hdst : (recvV offd inbd).view.WordExact}
    {hsem : DmaTarget.Typed .vmem (.dma s2) (.remote (Dev.tc d : Thread nD τ) (recvV offd inbd : Memref sig .tc .vmem S512x512 .bf16) (.dma s1) hsc)} :
    iprop(recs X Wt ∗ ow c (21 - j) ∗ (∃ f, sendL c ↦[slot 14 512 512 j]{fullShare} f) ∗ copyRes (F := F) c j)
      ⊢ iprop(((ow c (20 - j) ∗ cred (tallyAt (dcell c (4 + j)) () NY)) -∗ run c (k ⟨⟩) Q)
          -∗ run c (.op (.load sendM (Rect.unit (s := S14x512x512) off S1x512x512.size inb).toLoadRect hl) fun _ =>
            .op (.store sendM (Rect.unit (s := S14x512x512) off S1x512x512.size inb) w Finset.univ hx hm) fun _ =>
            .op (.enqueueDma (sendV offs inbs)
              (.remote (Dev.tc d : Thread nD τ) (recvV offd inbd) (.dma s1) hsc) (.dma s2) hsrc hdst hsem) k) Q) := by
  iintro ⟨#Hr, HO, ⟨%f, Hs⟩, Hc⟩ Hk
  iapply (wp_load_rect 𝒱₀ (c : Thread nD τ) none Set.univ (m := sendM) (r := Rect.unit (s := S14x512x512) off S1x512x512.size inb)
    (k := fun _ => .op (.store sendM (Rect.unit (s := S14x512x512) off S1x512x512.size inb) w Finset.univ hx hm) fun _ =>
            .op (.enqueueDma (sendV offs inbs)
              (.remote (Dev.tc d : Thread nD τ) (recvV offd inbd) (.dma s1) hsc) (.dma s2) hsrc hdst hsem) k)
    (S := slot 14 512 512 j) (q := fullShare) (f := f) (send_set ho0 inb).le) $$ Hs
  iintro Hs
  iapply (wp_store 𝒱₀ (c : Thread nD τ) none Set.univ (m := sendM) (r := Rect.unit (s := S14x512x512) off S1x512x512.size inb) (Mk := Finset.univ)
    (S := slot 14 512 512 j) (f := f) (send_set ho0 inb).le) $$ Hs
  iintro Hs
  iapply (send_item X Wt c hj hd ho ho' hs1 hs2) $$ [HO Hs Hc]
  · isplitr; · iexact Hr
    isplitl [HO]; · iexact HO
    isplitl [Hs]
    · unfold sendPts
      iapply (Entails.of_eq (pointsTo_congr fun y hy => ?_)) $$ Hs
      rw [send_write ho0 inb f w y (mem_slot.1 hy), hw]
      unfold sendBuf
      rw [mem_slot.1 hy]
    iexact Hc
  iexact Hk

/-- A finished block the device keeps, into its own slot. -/
theorem keep_slot {α : Type} {Q : α → sProp 𝕄} {k : PUnit → Prog (TpuEff nD τ sig (Elt F) Λ₀ .tc) α} {h : ℕ} (hh : h < 2) {off : Fin 3 → ℕ}
    (ho : off = ![2 * c.val + h, 0, 0]) {w : Vec F S1x512x512 .bf16} (hw : w = ybk X Wt c (itemBlk c (14 + h))) {inb}
    {hl : recvM.view.LoadsAt (Rect.unit (s := S16x512x512) off S1x512x512.size inb).toLoadRect}
    {hx : (recvM.access (Rect.unit (s := S16x512x512) off S1x512x512.size inb)).Stores Finset.univ} {hm} :
    iprop(∃ f, recvL c ↦[slot 16 512 512 (2 * c.val + h)]{fullShare} f)
      ⊢ iprop((recvPts X Wt c (2 * c.val + h) -∗ run c (k ⟨⟩) Q)
          -∗ run c (.op (.load recvM (Rect.unit (s := S16x512x512) off S1x512x512.size inb).toLoadRect hl) fun _ =>
            .op (.store recvM (Rect.unit (s := S16x512x512) off S1x512x512.size inb) w Finset.univ hx hm) k) Q) := by
  iintro ⟨%f, Hs⟩ Hk
  iapply (wp_load_rect 𝒱₀ (c : Thread nD τ) none Set.univ (m := recvM) (r := Rect.unit (s := S16x512x512) off S1x512x512.size inb)
    (k := fun _ => .op (.store recvM (Rect.unit (s := S16x512x512) off S1x512x512.size inb) w Finset.univ hx hm) k)
    (S := slot 16 512 512 (2 * c.val + h)) (q := fullShare) (f := f) (recv_set ho inb).le) $$ Hs
  iintro Hs
  iapply (wp_store 𝒱₀ (c : Thread nD τ) none Set.univ (m := recvM) (r := Rect.unit (s := S16x512x512) off S1x512x512.size inb) (Mk := Finset.univ)
    (S := slot 16 512 512 (2 * c.val + h)) (f := f) (recv_set ho inb).le) $$ Hs
  iintro Hs
  iapply Hk
  unfold recvPts
  iapply (Entails.of_eq (pointsTo_congr fun y hy => ?_)) $$ Hs
  have hc : c.val < 8 := c.isLt
  rw [recv_write ho inb f w y (mem_slot.1 hy), hw]
  unfold recvBuf itemBlk
  rw [mem_slot.1 hy]
  have e1 : sh c ((14 + h) / 2 + 1) = c := Fin.ext (show (c.val + ((14 + h) / 2 + 1)) % 8 = c.val by omega)
  have e2 : dv ((2 * c.val + h) / 2) = c := Fin.ext (show ((2 * c.val + h) / 2) % 8 = c.val by omega)
  rw [e1, e2, show (14 + h) % 2 = h by omega, show (2 * c.val + h) % 2 = h by omega]

end Items

end Cert.KernelIdeal.A2A
end
-- ==== Proof.Data.lean ====
/- The state of a device between the steps of its grid. -/
module

public import proofs.«01_k».proof.Proof.Steps

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → Vec F S512x4096 .bf16) (Wt : Dev nD → Vec F S4096x8192 .bf16) (c : Dev nD)

abbrev wM0 : Memref sig .tc .vmem S4096x512 .bf16 := Memref.whole cc0_scratch0
abbrev wM1 : Memref sig .tc .vmem S4096x512 .bf16 := Memref.whole cc0_scratch1

/-- The weight buffers before item `n`: one holds its block, the other anything. -/
def wbufs (n : ℕ) : sProp 𝕄 :=
  if n % 2 = 0 then iprop(own c wM0 (wb Wt c (itemBlk c n)) ∗ (∃ f, own c wM1 f)) else iprop(own c wM1 (wb Wt c (itemBlk c n)) ∗ (∃ f, own c wM0 f))

/-- Items still to send, from `n` on. -/
def todo (n : ℕ) : sProp 𝕄 :=
  bigSep (Finset.Ico n 14) fun j => iprop((∃ f, sendL c ↦[slot 14 512 512 j]{fullShare} f) ∗ copyRes (F := F) c j)

/-- The copies under way after `n` items. -/
def sent (n : ℕ) : sProp 𝕄 := bigSep (Finset.range n) fun j => cred (tallyAt (dcell c (4 + j)) () NY)

/-- The slot of a block the device keeps: anything before it is made. -/
def keep (done : Prop) [Decidable done] (h : ℕ) : sProp 𝕄 :=
  if done then recvPts X Wt c (2 * c.val + h) else iprop(∃ f, recvL c ↦[slot 16 512 512 (2 * c.val + h)]{fullShare} f)

/-- After `n` items, before item `n`. -/
def mid (n : ℕ) : sProp 𝕄 :=
  iprop(tab (F := F) c ∗ own c accM (accAt X Wt c n) ∗ wbufs Wt c n ∗ todo (F := F) c n ∗ sent (F := F) c (min n 14) ∗ keep X Wt c (15 ≤ n) 0 ∗ keep X Wt c (16 ≤ n) 1)

theorem keep_yes {done : Prop} [Decidable done] (h : ℕ) (hd : done) : keep X Wt c done h = recvPts X Wt c (2 * c.val + h) := if_pos hd
theorem keep_no {done : Prop} [Decidable done] (h : ℕ) (hd : ¬ done) :
    keep X Wt c done h = iprop(∃ f, recvL c ↦[slot 16 512 512 (2 * c.val + h)]{fullShare} f) := if_neg hd

theorem keep_still {a b : Prop} [Decidable a] [Decidable b] (h : ℕ) (ha : ¬ a) (hb : ¬ b) : keep X Wt c a h ⊢ keep X Wt c b h :=
  Entails.of_eq ((keep_no X Wt c h ha).trans (keep_no X Wt c h hb).symm)

theorem todo_cut {n : ℕ} (h : n < 14) : todo (F := F) c n = iprop(((∃ f, sendL c ↦[slot 14 512 512 n]{fullShare} f) ∗ copyRes (F := F) c n) ∗ todo (F := F) c (n + 1)) := by
  unfold todo
  rw [show Finset.Ico n 14 = insert n (Finset.Ico (n + 1) 14) from by ext z; simp only [Finset.mem_Ico, Finset.mem_insert]; omega, bigSep_add (by simp)]

theorem sent_add (n : ℕ) : sent (F := F) c (n + 1) = iprop(cred (tallyAt (dcell c (4 + n)) () NY) ∗ sent (F := F) c n) := by
  unfold sent
  rw [Finset.range_add_one, bigSep_add Finset.notMem_range_self]

end

end Cert.KernelIdeal.A2A

end
-- ==== Proof.Index.lean ====
/- Families of resources over devices, items and slots, dealt in the orders the body uses them. -/
module

public import proofs.«01_k».proof.Proof.Data
public import Idealize.SL.ProofMode.BigOp

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (c : Dev nD)

theorem val_sh (t : ℕ) : (sh c t).val = (c.val + t) % 8 := rfl
theorem val_sub (t : ℕ) : (sub c t).val = (c.val + 8 - t) % 8 := rfl

theorem both {P Q : sProp 𝕄} (h : P ⊢ Q) (h' : Q ⊢ P) : P = Q := Entails.antisymm h h'

/-- A family over the eight devices, dealt as the device's own and the seven after it. -/
theorem deal_sh (Ψ : Dev nD → sProp 𝕄) : bigSep Finset.univ Ψ = iprop(Ψ c ∗ bigSep (Finset.Ico 1 8) fun t => Ψ (sh c t)) := by
  have h1 : (Finset.univ : Finset (Dev nD)) = insert c ((Finset.Ico 1 8).image (sh c)) := by revert c; decide
  have h2 : c ∉ (Finset.Ico 1 8).image (sh c) := by revert c; decide
  have h3 : Set.InjOn (sh c) (Finset.Ico 1 8) := fun a ha b hb h => by
    have ha := Finset.mem_Ico.1 (Finset.mem_coe.1 ha); have hb := Finset.mem_Ico.1 (Finset.mem_coe.1 hb)
    have h := congrArg Fin.val h; rw [val_sh, val_sh] at h; omega
  rw [h1, bigSep_add h2, bigSep_image_of_injOn h3]

theorem deal_sub (Ψ : Dev nD → sProp 𝕄) : bigSep Finset.univ Ψ = iprop(Ψ c ∗ bigSep (Finset.Ico 1 8) fun t => Ψ (sub c t)) := by
  have h1 : (Finset.univ : Finset (Dev nD)) = insert c ((Finset.Ico 1 8).image (sub c)) := by revert c; decide
  have h2 : c ∉ (Finset.Ico 1 8).image (sub c) := by revert c; decide
  have h3 : Set.InjOn (sub c) (Finset.Ico 1 8) := fun a ha b hb h => by
    have ha := Finset.mem_Ico.1 (Finset.mem_coe.1 ha); have hb := Finset.mem_Ico.1 (Finset.mem_coe.1 hb)
    have h := congrArg Fin.val h; rw [val_sub, val_sub] at h; have := c.isLt; omega
  rw [h1, bigSep_add h2, bigSep_image_of_injOn h3]

theorem erase_sh (Ψ : Dev nD → sProp 𝕄) : bigSep (Finset.univ.erase c) Ψ = bigSep (Finset.Ico 1 8) fun t => Ψ (sh c t) := by
  have h1 : (Finset.univ : Finset (Dev nD)).erase c = (Finset.Ico 1 8).image (sh c) := by revert c; decide
  have h3 : Set.InjOn (sh c) (Finset.Ico 1 8) := fun a ha b hb h => by
    have ha := Finset.mem_Ico.1 (Finset.mem_coe.1 ha); have hb := Finset.mem_Ico.1 (Finset.mem_coe.1 hb)
    have h := congrArg Fin.val h; rw [val_sh, val_sh] at h; omega
  rw [h1, bigSep_image_of_injOn h3]

/-- Numbers below `n` and the type of them. -/
theorem range_fin (n : ℕ) (Ψ : ℕ → sProp 𝕄) : bigSep (Finset.range n) Ψ = bigSep (Finset.univ : Finset (Fin n)) fun k => Ψ k.val := by
  have e : Finset.range n = (Finset.univ : Finset (Fin n)).map Fin.valEmbedding := by
    ext i; simp only [Finset.mem_range, Finset.mem_map, Finset.mem_univ, Fin.valEmbedding_apply, true_and]
    exact ⟨fun h => ⟨⟨i, h⟩, rfl⟩, fun ⟨j, hj⟩ => hj ▸ j.isLt⟩
  rw [e, bigSep_map]; rfl

/-- A family over `n` pairs, by its pairs. -/
theorem range_pairs (n : ℕ) (Ψ : ℕ → sProp 𝕄) : bigSep (Finset.range (2 * n)) Ψ = bigSep (Finset.range n) fun k => iprop(Ψ (2 * k) ∗ Ψ (2 * k + 1)) := by
  induction n with
  | zero => rfl
  | succ n ih =>
    rw [show 2 * (n + 1) = 2 * n + 1 + 1 by omega, Finset.range_add_one, bigSep_add Finset.notMem_range_self, Finset.range_add_one,
      bigSep_add Finset.notMem_range_self, ih, Finset.range_add_one, bigSep_add Finset.notMem_range_self]
    refine both ?_ ?_
    · iintro ⟨H1, H0, H⟩; isplitl [H0 H1]; · isplitl [H0] <;> iassumption
      iexact H
    · iintro ⟨⟨H0, H1⟩, H⟩; isplitl [H1]; · iexact H1
      isplitl [H0] <;> iassumption

/-- A family over the sixteen half slots, dealt as the device's own two and the pairs of the seven before it. -/
theorem pairs_sub (Ψ : ℕ → sProp 𝕄) : bigSep (Finset.range 16) Ψ
    = iprop((Ψ (2 * c.val) ∗ Ψ (2 * c.val + 1)) ∗ bigSep (Finset.Ico 1 8) fun t => iprop(Ψ (2 * (sub c t).val) ∗ Ψ (2 * (sub c t).val + 1))) := by
  rw [show 16 = 2 * 8 from rfl, range_pairs, range_fin, deal_sub c (fun d => iprop(Ψ (2 * d.val) ∗ Ψ (2 * d.val + 1)))]
theorem pairs_sh (Ψ : ℕ → sProp 𝕄) : bigSep (Finset.range 16) Ψ
    = iprop((Ψ (2 * c.val) ∗ Ψ (2 * c.val + 1)) ∗ bigSep (Finset.Ico 1 8) fun t => iprop(Ψ (2 * (sh c t).val) ∗ Ψ (2 * (sh c t).val + 1))) := by
  rw [show 16 = 2 * 8 from rfl, range_pairs, range_fin, deal_sh c (fun d => iprop(Ψ (2 * d.val) ∗ Ψ (2 * d.val + 1)))]
theorem eight_sh (Ψ : ℕ → sProp 𝕄) : bigSep (Finset.range 8) Ψ = iprop(Ψ c.val ∗ bigSep (Finset.Ico 1 8) fun t => Ψ (sh c t).val) := by
  rw [range_fin, deal_sh c (fun d => Ψ d.val)]

/-- An interval starting elsewhere. -/
theorem Ico_range (a n : ℕ) (Ψ : ℕ → sProp 𝕄) : bigSep (Finset.Ico a (a + n)) Ψ = bigSep (Finset.range n) fun k => Ψ (a + k) := by
  have e : Finset.Ico a (a + n) = (Finset.range n).map (addLeftEmbedding a) := by
    ext i; simp only [Finset.mem_Ico, Finset.mem_map, Finset.mem_range, addLeftEmbedding_apply]
    exact ⟨fun h => ⟨i - a, by omega, by omega⟩, fun ⟨j, hj, e⟩ => by omega⟩
  rw [e, bigSep_map]; rfl

/-- The fourteen items as seven pairs. -/
theorem items_pairs (Ψ : ℕ → sProp 𝕄) : bigSep (Finset.range 14) Ψ = bigSep (Finset.Ico 1 8) fun t => iprop(Ψ (2 * t - 2) ∗ Ψ (2 * t - 1)) := by
  rw [show 14 = 2 * 7 from rfl, range_pairs, show Finset.Ico 1 8 = Finset.Ico 1 (1 + 7) from rfl, Ico_range]
  exact bigSep_congr fun k _ => by
    rw [show 2 * (1 + k) - 2 = 2 * k by omega, show 2 * (1 + k) - 1 = 2 * k + 1 by omega]

/-- The first of an interval. -/
theorem Ico_first {a b : ℕ} (h : a < b) (Ψ : ℕ → sProp 𝕄) : bigSep (Finset.Ico a b) Ψ = iprop(Ψ a ∗ bigSep (Finset.Ico (a + 1) b) Ψ) := by
  rw [show Finset.Ico a b = insert a (Finset.Ico (a + 1) b) from by ext z; simp only [Finset.mem_Ico, Finset.mem_insert]; omega, bigSep_add (by simp)]
theorem Ico_none {a b : ℕ} (h : b ≤ a) (Ψ : ℕ → sProp 𝕄) : bigSep (Finset.Ico a b) Ψ = iprop(emp) := by
  rw [Finset.Ico_eq_empty (by omega)]; rfl
theorem Ico_join {a b d : ℕ} (h : a ≤ b) (h' : b ≤ d) (Ψ : ℕ → sProp 𝕄) :
    bigSep (Finset.Ico a d) Ψ = iprop(bigSep (Finset.Ico a b) Ψ ∗ bigSep (Finset.Ico b d) Ψ) := by
  rw [← Finset.Ico_union_Ico_eq_Ico h h', bigSep_or (Finset.Ico_disjoint_Ico_consecutive a b d)]

/-- The four ranges of a device's own cells. -/
theorem own_cells (Ψ : ℕ → sProp 𝕄) : bigSep (Finset.Ico 4 50) Ψ
    = iprop(bigSep (Finset.range 14) (fun j => Ψ (4 + j)) ∗ bigSep (Finset.range 16) (fun k => Ψ (18 + k))
        ∗ bigSep (Finset.range 8) (fun k => Ψ (34 + k)) ∗ bigSep (Finset.range 8) (fun k => Ψ (42 + k))) := by
  rw [Ico_join (show 4 ≤ 18 by omega) (show 18 ≤ 50 by omega), Ico_join (show 18 ≤ 34 by omega) (show 34 ≤ 50 by omega),
    Ico_join (show 34 ≤ 42 by omega) (show 42 ≤ 50 by omega), show Finset.Ico 4 18 = Finset.Ico 4 (4 + 14) from rfl, Ico_range,
    show Finset.Ico 18 34 = Finset.Ico 18 (18 + 16) from rfl, Ico_range, show Finset.Ico 34 42 = Finset.Ico 34 (34 + 8) from rfl, Ico_range,
    show Finset.Ico 42 50 = Finset.Ico 42 (42 + 8) from rfl, Ico_range]

theorem eight_first (Ψ : ℕ → sProp 𝕄) : bigSep (Finset.range 8) Ψ = iprop(Ψ 0 ∗ bigSep (Finset.Ico 1 8) Ψ) := by
  rw [show Finset.range 8 = Finset.Ico 0 8 from by decide, Ico_first (by omega)]
theorem fourteen (Ψ : ℕ → sProp 𝕄) : bigSep (Finset.range 14) Ψ = bigSep (Finset.Ico 0 14) Ψ := by
  rw [show Finset.range 14 = Finset.Ico 0 14 from by decide]

theorem each {I : Type} {s : Finset I} {Φ Ψ : I → sProp 𝕄} (h : ∀ i ∈ s, Φ i ⊢ Ψ i) : bigSep s Φ ⊢ bigSep s Ψ := bigSep_mono h

/-- Two families side by side. -/
theorem zip {I : Type} [DecidableEq I] (s : Finset I) (Φ Ψ : I → sProp 𝕄) : bigSep s (fun i => iprop(Φ i ∗ Ψ i)) = iprop(bigSep s Φ ∗ bigSep s Ψ) := bigSep_sep s Φ Ψ

end

/-- A buffer of slots, by its slots. -/
theorem slots {ℓ : Loc nD τ sig} {n : ℕ} (K : ℕ → Finset (Idx ℓ)) (hd : ∀ b b' : ℕ, b ≠ b' → Disjoint (K b) (K b'))
    (hc : Finset.univ.biUnion (fun b : Fin n => K b.val) = Finset.univ) (f : Buf (Elt F) ℓ) :
    (ℓ ↦{fullShare} f : sProp 𝕄) = bigSep (Finset.range n) fun k => ℓ ↦[K k]{fullShare} f := by
  rw [range_fin, ← pointsTo_biUnion Finset.univ (fun b : Fin n => K b.val) (fun b _ b' _ h => hd b.val b'.val fun e => h (Fin.ext e)), hc]

section
variable (c : Dev nD)
theorem send_slots (f) : (sendL c ↦{fullShare} f : sProp 𝕄) = bigSep (Finset.range 14) fun k => sendL c ↦[slot 14 512 512 k]{fullShare} f :=
  slots (ℓ := sendL c) (fun k => slot 14 512 512 k) (fun _ _ h => slot_disjoint h) slot_cover f
theorem recv_slots (f) : (recvL c ↦{fullShare} f : sProp 𝕄) = bigSep (Finset.range 16) fun k => recvL c ↦[slot 16 512 512 k]{fullShare} f :=
  slots (ℓ := recvL c) (fun k => slot 16 512 512 k) (fun _ _ h => slot_disjoint h) slot_cover f
theorem amax_slots (f) : (amaxL c ↦{fullShare} f : sProp 𝕄) = bigSep (Finset.range 8) fun k => amaxL c ↦[slot 8 8 128 k]{fullShare} f :=
  slots (ℓ := amaxL c) (fun k => slot 8 8 128 k) (fun _ _ h => slot_disjoint h) slot_cover f
end

end Cert.KernelIdeal.A2A

end
-- ==== Proof.State.lean ====
/- What a device holds at the start, between its steps and at the end. -/
module

public import proofs.«01_k».proof.Proof.Index

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → Vec F S512x4096 .bf16) (Wt : Dev nD → Vec F S4096x8192 .bf16) (c : Dev nD)

/-- The one wait of a cell of a copy. -/
def got (q : ℕ) : sProp 𝕄 := iprop(cred (tallyAt (dcell c q) () (damt q)) ∗ atPos ER (dcell c q) 0 ∅ 0)
def wat (q : ℕ) : sProp 𝕄 := atPos ER (dcell c q) 0 ∅ 0
def nil (q : ℕ) : sProp 𝕄 := semVal (dcell c q) 0

/-- What the last place of the grid waits with. -/
def waits : sProp 𝕄 :=
  iprop(bigSep (Finset.range 14) (fun j => wat (F := F) c (4 + j))
    ∗ bigSep (Finset.Ico 1 8) (fun t => iprop(got (F := F) c (18 + 2 * (sub c t).val) ∗ got (F := F) c (18 + (2 * (sub c t).val + 1))))
    ∗ bigSep (Finset.Ico 1 8) (fun t => wat (F := F) c (34 + t))
    ∗ bigSep (Finset.Ico 1 8) (fun t => got (F := F) c (42 + (sh c t).val))
    ∗ (nil (F := F) c (18 + 2 * c.val) ∗ nil (F := F) c (18 + (2 * c.val + 1))) ∗ nil (F := F) c 34 ∗ nil (F := F) c (42 + c.val))

/-- All of a device's own cells are back at zero. -/
def quiet : sProp 𝕄 := iprop(semVal (barCell c) 0 ∗ bigSep (Finset.Ico 4 50) (nil (F := F) c))

/-- What the places after the first do not touch before the last. -/
def rest : sProp 𝕄 :=
  iprop(amaxPts X Wt c c.val ∗ bigSep (Finset.Ico 1 8) (amaxRes (F := F) c) ∗ waits (F := F) c ∗ semVal (barCell c) 0)

/-- Its knock at the barrier of the device `t` places on. -/
def knock (t : ℕ) : sProp 𝕄 :=
  iprop(dutyTok ER (barCell (sh c t)) 0 c ∗ reached ER (dcell c (18 + 2 * (sh c t).val)) 0 ∗ reached ER (dcell c (18 + (2 * (sh c t).val + 1))) 0
    ∗ reached ER (dcell c (42 + (sh c t).val)) 0)

/-- The duties of the copy of item `j`, and of the copy of the maxima `t` places on. -/
def itemTok (j : ℕ) : sProp 𝕄 :=
  iprop(dutyTok ER (dcell c (4 + j)) 0 0 ∗ reached ER (dcell c (4 + j)) 0 ∗ dutyTok ER (dcell (sh c (j / 2 + 1)) (18 + (2 * c.val + j % 2))) 0 0)
def amaxTok (t : ℕ) : sProp 𝕄 :=
  iprop(dutyTok ER (dcell c (34 + t)) 0 0 ∗ reached ER (dcell c (34 + t)) 0 ∗ dutyTok ER (dcell (sh c t) (42 + c.val)) 0 0)

/-- What a device starts with, its buffers apart. -/
def begin_ : sProp 𝕄 :=
  iprop(cred (tallyAt (barCell c) () 7) ∗ atPos ER (barCell c) 0 ∅ 0 ∗ bigSep (Finset.Ico 1 8) (knock (F := F) c)
    ∗ bigSep (Finset.range 14) (itemTok (F := F) c) ∗ bigSep (Finset.Ico 1 8) (amaxTok (F := F) c) ∗ waits (F := F) c)

/-- The six buffers at any contents. -/
def bufs : sProp 𝕄 :=
  iprop((∃ f, (c : Thread nD τ).loc cc0_scratch0 ↦{fullShare} f) ∗ (∃ f, (c : Thread nD τ).loc cc0_scratch1 ↦{fullShare} f) ∗ (∃ f, sendL c ↦{fullShare} f)
    ∗ (∃ f, recvL c ↦{fullShare} f) ∗ (∃ f, accL c ↦{fullShare} f) ∗ (∃ f, amaxL c ↦{fullShare} f))

/-- Slots lent to the seven others, in the order of the knocks. -/
theorem lends (f : Buf (Elt F) (recvL c)) (g : Buf (Elt F) (amaxL c)) :
    iprop((recvL c ↦{fullShare} f) ∗ (amaxL c ↦{fullShare} g) ∗ bigSep (Finset.Ico 1 8) (knock (F := F) c))
    ⊢ (iprop((∃ f, recvL c ↦[slot 16 512 512 (2 * c.val + 0)]{fullShare} f) ∗ (∃ f, recvL c ↦[slot 16 512 512 (2 * c.val + 1)]{fullShare} f)
      ∗ (amaxL c ↦[slot 8 8 128 c.val]{fullShare} g)
      ∗ bigSep (Finset.Ico 1 8) fun t => iprop(dutyTok ER (barCell (sh c t)) 0 c ∗ lend (F := F) c (sh c t))) : sProp 𝕄) := by
  rw [recv_slots c f, amax_slots c g, pairs_sh c, eight_sh c]
  iintro ⟨⟨⟨H0, H1⟩, Hp⟩, ⟨Ha, Hq⟩, Hk⟩
  isplitl [H0]; · iexists _; iexact H0
  isplitl [H1]; · iexists _; iexact H1
  isplitl [Ha]; · iexact Ha
  ihave H := (Entails.of_eq (zip (Finset.Ico 1 8) _ _).symm) $$ [Hp Hq]
  · isplitl [Hp]; · iexact Hp
    iexact Hq
  ihave H := (Entails.of_eq (zip (Finset.Ico 1 8) _ _).symm) $$ [H Hk]
  · isplitl [H]; · iexact H
    iexact Hk
  iapply (each (fun t _ => ?_)) $$ H
  unfold knock lend
  iintro ⟨⟨⟨A, B⟩, C⟩, D, E0, E1, E2⟩
  isplitl [D]; · iexact D
  isplitl [A]; · iexists _; iexact A
  isplitl [B]; · iexists _; iexact B
  isplitl [C]; · iexists _; iexact C
  isplitl [E0]; · iexact E0
  isplitl [E1] <;> iassumption

/-- What the seven others lend, item by item. -/
theorem borrows :
    iprop(bigSep (Finset.univ.erase c) (fun d : Dev nD => lend (F := F) d c) ∗ bigSep (Finset.range 14) (itemTok (F := F) c) ∗ bigSep (Finset.Ico 1 8) (amaxTok (F := F) c))
    ⊢ (iprop(bigSep (Finset.range 14) (copyRes (F := F) c) ∗ bigSep (Finset.Ico 1 8) (amaxRes (F := F) c)) : sProp 𝕄) := by
  rw [erase_sh c (fun d => lend (F := F) d c), items_pairs, items_pairs, ← zip, ← zip, ← zip]
  refine each fun t ht => ?_
  have ht := Finset.mem_Ico.1 ht
  unfold lend itemTok amaxTok copyRes amaxRes
  rw [show (2 * t - 2) / 2 + 1 = t by omega, show (2 * t - 1) / 2 + 1 = t by omega, show (2 * t - 2) % 2 = 0 by omega, show (2 * t - 1) % 2 = 1 by omega]
  iintro ⟨⟨A, B, C, R0, R1, R2⟩, ⟨⟨S0, S1, S2⟩, ⟨T0, T1, T2⟩⟩, U0, U1, U2⟩
  isplitr [C U0 U1 U2 R2]
  · isplitl [A S0 S1 S2 R0]
    · isplitl [A]; · iexact A
      isplitl [S0]; · iexact S0
      isplitl [S1]; · iexact S1
      isplitl [S2] <;> iassumption
    · isplitl [B]; · iexact B
      isplitl [T0]; · iexact T0
      isplitl [T1]; · iexact T1
      isplitl [T2] <;> iassumption
  isplitl [C]; · iexact C
  isplitl [U0]; · iexact U0
  isplitl [U1]; · iexact U1
  isplitl [U2] <;> iassumption

/-- Everything in place before the first item. -/
theorem ready (f : Buf (Elt F) (sendL c)) : iprop((sendL c ↦{fullShare} f) ∗ bigSep (Finset.range 14) (copyRes (F := F) c)) ⊢ (todo (F := F) c 0 : sProp 𝕄) := by
  rw [send_slots c f, ← zip, fourteen]
  unfold todo
  refine each fun j _ => ?_
  iintro ⟨A, B⟩
  isplitl [A]; · iexists _; iexact A
  iexact B

end

end Cert.KernelIdeal.A2A

end
-- ==== Proof.Odd.lean ====
/- An odd place of the grid. -/
module

public import proofs.«01_k».proof.Proof.Data

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body at place `t`, on the stages it is given. -/
abbrev bodyAt (t : Fin grid0.N) (m2 : Memref sig .tc .vmem S512x4096 .bf16) (h2 : m2.IsWhole) (m3 : Memref sig .tc .vmem S4096x512 .bf16) (h3 : m3.IsWhole)
    (m4 : Memref sig .tc .vmem S4096x1024 .bf16) (h4 : m4.IsWhole) : Prog (TpuEff nD τ sig (Elt F) Λ₀ .tc) PUnit :=
  cc0_body (F := F) (grid0.coords t) (Memref.whole main_v8) (Memref.isWhole_whole _) m2 h2 m3 h3 m4 h4
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9

section
variable (X : Dev nD → Vec F S512x4096 .bf16) (Wt : Dev nD → Vec F S4096x8192 .bf16) (c : Dev nD)

set_option maxHeartbeats 4000000 in
set_option maxRecDepth 8000 in
/-- An odd place: item `t - 1` from the first weight buffer, the next block into the second. -/
theorem step_odd (t : Fin grid0.N) (ht : t.val % 2 = 1) (m2 h2 m3 h3 m4 h4) {Q : PUnit → sProp 𝕄} :
    iprop(recs X Wt ∗ ow c (21 - min (t.val - 1) 14) ∗ mid X Wt c (t.val - 1) ∗ own c m2 (X c) ∗ own c m3 (wblk Wt c (itemBlk c t.val)))
    ⊢ iprop(((ow c (21 - min t.val 14) ∗ mid X Wt c t.val ∗ own c m2 (X c) ∗ own c m3 (wblk Wt c (itemBlk c t.val))) -∗ Q ⟨⟩)
      -∗ run c (bodyAt (F := F) t m2 h2 m3 h3 m4 h4) Q) := by
  have n1 : ¬ k0_cond1 (grid0.coords t) = 1#1 := fun h => by have := (cond1_iff t).1 h; omega
  have n2 : ¬ k0_cond2 (grid0.coords t) = 1#1 := fun h => by have := (cond2_iff t).1 h; omega
  have n7 : k0_cond7 (grid0.coords t) = 1#1 := (cond7_iff t).2 ht
  have n10 : ¬ k0_cond10 (grid0.coords t) = 1#1 := fun h => by have := (cond10_iff t).1 h; omega
  have hN : t.val < 17 := t.isLt
  unfold bodyAt
  simp only [cc0_body_eq_skeleton]
  unfold cc0_body_skel
  simp only [dif_neg n1, dif_neg n2, dif_pos n7, dif_neg n10, Prog.lift, Prog.bind_op, Prog.bind_ret, Prog.pure_eq_ret]
  unfold run mid wbufs
  rw [wp_deviceId, if_pos (by omega : (t.val - 1) % 2 = 0), if_neg (by omega : ¬ t.val % 2 = 0)]
  iintro ⟨#Hr, HO, Hm, Hx, Hb⟩ Hk
  icases Hm with ⟨Ht, Ha, Hw, Htd, Hs, H0, H1⟩
  icases Hw with ⟨Hw0, ⟨%fw, Hw1⟩⟩
  rw [wp_bind]
  iapply (part3_run c t ht m2 h2 m3 h3 m4 h4 _ n7 (X c) (wb Wt c (itemBlk c (t.val - 1))) (accAt X Wt c (t.val - 1))) $$ [Ht Hx Hw0 Ha]
  · isplitl [Ht]; · iexact Ht
    isplitl [Hx]; · iexact Hx
    isplitl [Hw0]; · iexact Hw0
    iexact Ha
  iintro ⟨Ht, Hx, Hw0, Ha⟩ %r %hr
  obtain ⟨v33, v35, v37, hw2, v53⟩ := r
  obtain ⟨rfl, rfl⟩ := hr
  dsimp only
  by_cases hl : t.val < 15
  · have n8 : k0_cond8 (grid0.coords t) = 1#1 := (cond8_iff t ht).2 hl
    have n9 : ¬ k0_cond9 (grid0.coords t) = 1#1 := fun h => by have := (cond9_iff t ht).1 h; omega
    simp only [dif_pos n8, dif_neg n9, Prog.lift, Prog.bind_op, Prog.bind_ret, Prog.pure_eq_ret]
    ihave Htd := (Entails.of_eq (todo_cut c (show t.val - 1 < 14 by omega))) $$ Htd
    icases Htd with ⟨⟨Hs1, Hc1⟩, Htd⟩
    have hc : c.val < 8 := c.isLt
    iapply (send_slot X Wt c (show t.val - 1 < 14 by omega) (Fin.ext (dev9_at c ⟨t.val - 1, by omega⟩)) (off10_at t ht) (off14_at t ht) (off13_at t ht c)
      (sem_at _ (dq (4 + (t.val - 1))) _ (by rw [off11_at t ht, dq_val (by omega)]; rfl))
      (sem_at _ (dq (18 + (2 * c.val + (t.val - 1) % 2))) _ (by rw [off12_at t ht c, dq_val (by omega)]; rfl)) (w := k0_pay4 (k0_pay11 (X c) (wb Wt c (itemBlk c (t.val - 1))))) rfl) $$ [HO Hs1 Hc1]
    · isplitr; · iexact Hr
      isplitl [HO]; · rw [show min (t.val - 1) 14 = t.val - 1 by omega]; iexact HO
      isplitl [Hs1] <;> iassumption
    iintro ⟨HO, Hcr⟩
    iapply (load_all c h3 zero2 (wblk Wt c (itemBlk c t.val))) $$ Hb
    iintro Hb
    iapply (load_all c (Memref.isWhole_whole _) zero2 fw) $$ Hw1
    iintro Hw1
    iapply (store_all c (Memref.isWhole_whole _) zero2 fw) $$ Hw1
    iintro Hw1
    iapply run_ret
    iapply Hk
    isplitl [HO]; · rw [show 21 - min t.val 14 = 20 - (t.val - 1) by omega]; iexact HO
    isplitr [Hx Hb]
    · isplitl [Ht]; · iexact Ht
      isplitl [Ha]; · rw [show accAt X Wt c t.val = k0_pay10 (X c) (wb Wt c (itemBlk c (t.val - 1))) (accAt X Wt c (t.val - 1)) from by conv_lhs => rw [show t.val = (t.val - 1) + 1 by omega, accAt]]; iexact Ha
      isplitl [Hw0 Hw1]
      · isplitl [Hw1]; · iexact Hw1
        iexists _; iexact Hw0
      isplitl [Htd]; · rw [show t.val - 1 + 1 = t.val by omega]; iexact Htd
      isplitl [Hs Hcr]; · rw [show min t.val 14 = (t.val - 1) + 1 by omega, sent_add, show min (t.val - 1) 14 = t.val - 1 by omega]; isplitl [Hcr] <;> iassumption
      isplitl [H0]
      · iapply (keep_still X Wt c 0 (show ¬ 15 ≤ t.val - 1 by omega) (show ¬ 15 ≤ t.val by omega)) $$ H0
      iapply (keep_still X Wt c 1 (show ¬ 16 ≤ t.val - 1 by omega) (show ¬ 16 ≤ t.val by omega)) $$ H1
    isplitl [Hx] <;> iassumption
  · have n8 : ¬ k0_cond8 (grid0.coords t) = 1#1 := fun h => by have := (cond8_iff t ht).1 h; omega
    have n9 : k0_cond9 (grid0.coords t) = 1#1 := (cond9_iff t ht).2 (by omega)
    simp only [dif_neg n8, dif_pos n9, Prog.lift, Prog.bind_op, Prog.bind_ret, Prog.pure_eq_ret]
    have et : t.val = 15 := by omega
    ihave H0 := (Entails.of_eq (keep_no X Wt c 0 (show ¬ 15 ≤ t.val - 1 by omega))) $$ H0
    iapply (keep_slot X Wt c (h := 0) (by omega) ((off15_at t ht c).trans (by rw [et])) (w := k0_pay5 (k0_pay11 (X c) (wb Wt c (itemBlk c (t.val - 1))))) (by rw [et]; rfl)) $$ H0
    iintro H0
    iapply (load_all c h3 zero2 (wblk Wt c (itemBlk c t.val))) $$ Hb
    iintro Hb
    iapply (load_all c (Memref.isWhole_whole _) zero2 fw) $$ Hw1
    iintro Hw1
    iapply (store_all c (Memref.isWhole_whole _) zero2 fw) $$ Hw1
    iintro Hw1
    iapply run_ret
    iapply Hk
    isplitl [HO]; · rw [show 21 - min t.val 14 = 21 - min (t.val - 1) 14 by omega]; iexact HO
    isplitr [Hx Hb]
    · isplitl [Ht]; · iexact Ht
      isplitl [Ha]; · rw [show accAt X Wt c t.val = k0_pay10 (X c) (wb Wt c (itemBlk c (t.val - 1))) (accAt X Wt c (t.val - 1)) from by conv_lhs => rw [show t.val = (t.val - 1) + 1 by omega, accAt]]; iexact Ha
      isplitl [Hw0 Hw1]
      · isplitl [Hw1]; · iexact Hw1
        iexists _; iexact Hw0
      isplitl [Htd]; · unfold todo; rw [et]; iexact Htd
      isplitl [Hs]; · rw [et]; iexact Hs
      isplitl [H0]
      · rw [keep_yes X Wt c 0 (show 15 ≤ t.val by omega)]; iexact H0
      iapply (keep_still X Wt c 1 (show ¬ 16 ≤ t.val - 1 by omega) (show ¬ 16 ≤ t.val by omega)) $$ H1
    isplitl [Hx] <;> iassumption
end

end Cert.KernelIdeal.A2A

end
-- ==== Proof.Even.lean ====
/- An even place of the grid past the first and before the last. -/
module

public import proofs.«01_k».proof.Proof.Odd

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem cond6_iff (t : Fin grid0.N) :
    Scalar.cmpi .ne (Scalar.extui (Scalar.cmpi .sle (BitVec.ofNat 32 (grid0.coords t 0).val) 15#32) : BitVec 32) 0#32 = 1#1 ↔ t.val ≤ 15 := by
  revert t; decide +kernel

section
variable (X : Dev nD → Vec F S512x4096 .bf16) (Wt : Dev nD → Vec F S4096x8192 .bf16) (c : Dev nD)

set_option maxHeartbeats 4000000 in
set_option maxRecDepth 8000 in
/-- An even place past the first and before the last: item `t - 1` from the second weight buffer, the next block into the first. -/
theorem step_even (t : Fin grid0.N) (ht : t.val % 2 = 0) (ht1 : 1 ≤ t.val) (hl : t.val < 15) (m2 h2 m3 h3 m4 h4) {Q : PUnit → sProp 𝕄} :
    iprop(recs X Wt ∗ ow c (21 - min (t.val - 1) 14) ∗ mid X Wt c (t.val - 1) ∗ own c m2 (X c) ∗ own c m3 (wblk Wt c (itemBlk c t.val)))
    ⊢ iprop(((ow c (21 - min t.val 14) ∗ mid X Wt c t.val ∗ own c m2 (X c) ∗ own c m3 (wblk Wt c (itemBlk c t.val))) -∗ Q ⟨⟩)
      -∗ run c (bodyAt (F := F) t m2 h2 m3 h3 m4 h4) Q) := by
  have n1 : ¬ k0_cond1 (grid0.coords t) = 1#1 := fun h => by have := (cond1_iff t).1 h; omega
  have n2 : k0_cond2 (grid0.coords t) = 1#1 := (cond2_iff t).2 ht
  have n3 : k0_cond3 (grid0.coords t) = 1#1 := (cond3_iff t).2 (by omega)
  have n4 : k0_cond4 (grid0.coords t) = 1#1 := (cond4_iff t ht).2 hl
  have n5 : ¬ k0_cond5 (grid0.coords t) = 1#1 := fun h => by have := (cond5_iff t ht).1 h; omega
  have n6 := (cond6_iff t).2 (by omega)
  have n7 : ¬ k0_cond7 (grid0.coords t) = 1#1 := fun h => by have := (cond7_iff t).1 h; omega
  have n10 : ¬ k0_cond10 (grid0.coords t) = 1#1 := fun h => by have := (cond10_iff t).1 h; omega
  have hN : t.val < 17 := t.isLt
  unfold bodyAt
  simp only [cc0_body_eq_skeleton]
  unfold cc0_body_skel
  simp only [dif_neg n1, dif_pos n2, dif_pos n3, dif_pos n4, dif_neg n5, dif_pos n6, dif_neg n7, dif_neg n10, Prog.lift, Prog.bind_op, Prog.bind_ret, Prog.pure_eq_ret]
  unfold run mid wbufs
  rw [wp_deviceId, if_neg (by omega : ¬ (t.val - 1) % 2 = 0), if_pos (by omega : t.val % 2 = 0)]
  iintro ⟨#Hr, HO, Hm, Hx, Hb⟩ Hk
  icases Hm with ⟨Ht, Ha, Hw, Htd, Hs, H0, H1⟩
  icases Hw with ⟨Hw1, ⟨%fw, Hw0⟩⟩
  rw [wp_bind]
  try rw [wp_bind]
  iapply (part2_run c t ht ht1 m2 h2 m3 h3 m4 h4 _ n2 n3 (X c) (wb Wt c (itemBlk c (t.val - 1))) (accAt X Wt c (t.val - 1))) $$ [Ht Hx Hw1 Ha]
  · isplitl [Ht]; · iexact Ht
    isplitl [Hx]; · iexact Hx
    isplitl [Hw1]; · iexact Hw1
    iexact Ha
  iintro ⟨Ht, Hx, Hw1, Ha⟩ %r %hr
  obtain ⟨v39, v41, v43, hw1, v59⟩ := r
  obtain ⟨rfl, rfl⟩ := hr
  dsimp only
  ihave Htd := (Entails.of_eq (todo_cut c (show t.val - 1 < 14 by omega))) $$ Htd
  icases Htd with ⟨⟨Hs1, Hc1⟩, Htd⟩
  have hc : c.val < 8 := c.isLt
  iapply (send_slot X Wt c (show t.val - 1 < 14 by omega) (Fin.ext (dev8_at c ⟨t.val - 1, by omega⟩)) (off3_at t ht ht1) (off7_at t ht ht1) (off6_at t ht ht1 c)
    (sem_at _ (dq (4 + (t.val - 1))) _ (by rw [off4_at t ht ht1, dq_val (by omega)]; rfl))
    (sem_at _ (dq (18 + (2 * c.val + (t.val - 1) % 2))) _ (by rw [off5_at t ht ht1 c, dq_val (by omega)]; rfl)) (w := k0_pay1 (k0_pay11 (X c) (wb Wt c (itemBlk c (t.val - 1))))) rfl) $$ [HO Hs1 Hc1]
  · isplitr; · iexact Hr
    isplitl [HO]; · rw [show min (t.val - 1) 14 = t.val - 1 by omega]; iexact HO
    isplitl [Hs1] <;> iassumption
  iintro ⟨HO, Hcr⟩
  iapply (load_all c h3 zero2 (wblk Wt c (itemBlk c t.val))) $$ Hb
  iintro Hb
  iapply (load_all c (Memref.isWhole_whole _) zero2 fw) $$ Hw0
  iintro Hw0
  iapply (store_all c (Memref.isWhole_whole _) zero2 fw) $$ Hw0
  iintro Hw0
  iapply run_ret
  iapply Hk
  isplitl [HO]; · rw [show 21 - min t.val 14 = 20 - (t.val - 1) by omega]; iexact HO
  isplitr [Hx Hb]
  · isplitl [Ht]; · iexact Ht
    isplitl [Ha]; · rw [show accAt X Wt c t.val = k0_pay10 (X c) (wb Wt c (itemBlk c (t.val - 1))) (accAt X Wt c (t.val - 1)) from by conv_lhs => rw [show t.val = (t.val - 1) + 1 by omega, accAt]]; iexact Ha
    isplitl [Hw1 Hw0]
    · isplitl [Hw0]; · iexact Hw0
      iexists _; iexact Hw1
    isplitl [Htd]; · rw [show t.val - 1 + 1 = t.val by omega]; iexact Htd
    isplitl [Hs Hcr]; · rw [show min t.val 14 = (t.val - 1) + 1 by omega, sent_add, show min (t.val - 1) 14 = t.val - 1 by omega]; isplitl [Hcr] <;> iassumption
    isplitl [H0]
    · iapply (keep_still X Wt c 0 (show ¬ 15 ≤ t.val - 1 by omega) (show ¬ 15 ≤ t.val by omega)) $$ H0
    iapply (keep_still X Wt c 1 (show ¬ 16 ≤ t.val - 1 by omega) (show ¬ 16 ≤ t.val by omega)) $$ H1
  isplitl [Hx] <;> iassumption

end

end Cert.KernelIdeal.A2A

end
-- ==== Proof.First.lean ====
/- The first place of the grid. -/
module

public import proofs.«01_k».proof.Proof.State
public import proofs.«01_k».proof.Proof.Even

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → Vec F S512x4096 .bf16) (Wt : Dev nD → Vec F S4096x8192 .bf16) (c : Dev nD)

set_option maxHeartbeats 4000000 in
set_option maxRecDepth 8000 in
/-- The opening of the first place: the running maxima cleared, four of the seven knocks. -/
theorem part1_run (t : Fin grid0.N) (m2 h2' m3 h3 m4 h4 v2 g1) {Q : (Σ' (v24 : Sems sig S_), BitVec 32) → sProp 𝕄} :
    iprop(recs X Wt ∗ ow c 28 ∗ (∃ f, recvL c ↦{fullShare} f) ∗ (∃ f, accL c ↦{fullShare} f) ∗ (∃ f, amaxL c ↦{fullShare} f)
      ∗ bigSep (Finset.Ico 1 8) (knock (F := F) c))
    ⊢ iprop(((ow c 24 ∗ own c accM (k0_pay7 (F := F)) ∗ (∃ f, recvL c ↦[slot 16 512 512 (2 * c.val + 0)]{fullShare} f) ∗ (∃ f, recvL c ↦[slot 16 512 512 (2 * c.val + 1)]{fullShare} f)
        ∗ (amaxL c ↦[slot 8 8 128 c.val]{fullShare} k0_pay8 (F := F))
        ∗ bigSep (Finset.Ico 5 8) fun t => iprop(dutyTok ER (barCell (sh c t)) 0 c ∗ lend (F := F) c (sh c t))) -∗
        ∀ r, ⌜r.1 = SemArray.scalar (sig.barrier 0 rfl)⌝ -∗ Q r)
      -∗ run c (k0_part1 (F := F) (grid0.coords t) (Memref.whole main_v8) (Memref.isWhole_whole _) m2 h2' m3 h3 m4 h4
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 c v2 g1) Q) := by
  simp only [k0_part1_eq_skeleton]
  unfold k0_part1_skel
  simp only [semSignalWord, semWaitWord, Prog.lift, Prog.bind_op, Prog.bind_ret, Prog.pure_eq_ret]
  iintro ⟨#Hr, HO, ⟨%f3, H3⟩, ⟨%f4, H4⟩, ⟨%f5, H5⟩, Hl⟩ Hk
  ihave H4 := (Entails.of_eq (owns_whole (c : Thread nD τ) cc0_scratch4 fullShare f4).symm) $$ H4
  ihave H5 := (Entails.of_eq (owns_whole (c : Thread nD τ) cc0_scratch5 fullShare f5).symm) $$ H5
  iapply (load_all c (Memref.isWhole_whole _) zero2 f4) $$ H4
  iintro H4
  iapply (store_all c (Memref.isWhole_whole _) zero2 f4) $$ H4
  iintro H4
  iapply (load_all c (Memref.isWhole_whole _) zero3 f5) $$ H5
  iintro H5
  iapply (store_all c (Memref.isWhole_whole _) zero3 f5) $$ H5
  iintro H5
  ihave H5 := (Entails.of_eq (owns_whole (c : Thread nD τ) cc0_scratch5 fullShare (k0_pay8 (F := F)))) $$ H5
  ihave Hl := (lends c f3 (k0_pay8 (F := F))) $$ [H3 H5 Hl]
  · isplitl [H3]; · iexact H3
    isplitl [H5] <;> iassumption
  icases Hl with ⟨Hr0, Hr1, Ham, Hl⟩
  ihave Hl := (Entails.of_eq (Ico_first (show 1 < 8 by omega) _)) $$ Hl
  icases Hl with ⟨⟨Hd, Hg⟩, Hl⟩
  iapply (signal_peer X Wt c (t := 1) (by omega) (by omega) (Fin.ext (k0_dev1_eq c)) rfl rfl) $$ [HO Hd Hg]
  · isplitr; · iexact Hr
    isplitl [HO]; · iexact HO
    isplitl [Hd] <;> iassumption
  iintro HO
  ihave Hl := (Entails.of_eq (Ico_first (show 2 < 8 by omega) _)) $$ Hl
  icases Hl with ⟨⟨Hd, Hg⟩, Hl⟩
  iapply (signal_peer X Wt c (t := 2) (by omega) (by omega) (Fin.ext (k0_dev2_eq c)) rfl rfl) $$ [HO Hd Hg]
  · isplitr; · iexact Hr
    isplitl [HO]; · iexact HO
    isplitl [Hd] <;> iassumption
  iintro HO
  ihave Hl := (Entails.of_eq (Ico_first (show 3 < 8 by omega) _)) $$ Hl
  icases Hl with ⟨⟨Hd, Hg⟩, Hl⟩
  iapply (signal_peer X Wt c (t := 3) (by omega) (by omega) (Fin.ext (k0_dev3_eq c)) rfl rfl) $$ [HO Hd Hg]
  · isplitr; · iexact Hr
    isplitl [HO]; · iexact HO
    isplitl [Hd] <;> iassumption
  iintro HO
  ihave Hl := (Entails.of_eq (Ico_first (show 4 < 8 by omega) _)) $$ Hl
  icases Hl with ⟨⟨Hd, Hg⟩, Hl⟩
  iapply (signal_peer X Wt c (t := 4) (by omega) (by omega) (Fin.ext (k0_dev4_eq c)) rfl rfl) $$ [HO Hd Hg]
  · isplitr; · iexact Hr
    isplitl [HO]; · iexact HO
    isplitl [Hd] <;> iassumption
  iintro HO
  iapply run_ret
  ihave Hk := Hk $$ [HO H4 Hr0 Hr1 Ham Hl]
  · isplitl [HO]; · iexact HO
    isplitl [H4]; · iexact H4
    isplitl [Hr0]; · iexact Hr0
    isplitl [Hr1]; · iexact Hr1
    isplitl [Ham] <;> iassumption
  iapply Hk
  ipureintro
  rfl

set_option maxHeartbeats 4000000 in
set_option maxRecDepth 8000 in
/-- The first place: every device has knocked before anything is sent; the first block of the weight is put by. -/
theorem step_first (t : Fin grid0.N) (ht : t.val = 0) (m2 h2 m3 h3 m4 h4) {Q : PUnit → sProp 𝕄} :
    iprop(recs X Wt ∗ ow c 28 ∗ tab (F := F) c ∗ bufs (F := F) c ∗ begin_ (F := F) c ∗ own c m2 (X c) ∗ own c m3 (wblk Wt c (itemBlk c t.val)))
    ⊢ iprop(((ow c (21 - min t.val 14) ∗ mid X Wt c t.val ∗ rest X Wt c ∗ own c m2 (X c) ∗ own c m3 (wblk Wt c (itemBlk c t.val))) -∗ Q ⟨⟩)
      -∗ run c (bodyAt (F := F) t m2 h2 m3 h3 m4 h4) Q) := by
  have n1 : k0_cond1 (grid0.coords t) = 1#1 := (cond1_iff t).2 ht
  have n2 : k0_cond2 (grid0.coords t) = 1#1 := (cond2_iff t).2 (by omega)
  have n3 : ¬ k0_cond3 (grid0.coords t) = 1#1 := fun h => by have := (cond3_iff t).1 h; omega
  have n6 := (cond6_iff t).2 (by omega)
  have n7 : ¬ k0_cond7 (grid0.coords t) = 1#1 := fun h => by have := (cond7_iff t).1 h; omega
  have n10 : ¬ k0_cond10 (grid0.coords t) = 1#1 := fun h => by have := (cond10_iff t).1 h; omega
  unfold bodyAt
  simp only [cc0_body_eq_skeleton]
  unfold cc0_body_skel
  simp only [dif_pos n1, dif_pos n2, dif_neg n3, dif_pos n6, dif_neg n7, dif_neg n10, semSignalWord, semWaitWord, Prog.lift, Prog.bind_op, Prog.bind_ret, Prog.pure_eq_ret]
  unfold run mid wbufs bufs begin_ rest
  rw [wp_deviceId, ht, if_pos (by omega : 0 % 2 = 0)]
  iintro ⟨#Hr, HO, Ht, ⟨⟨%f0, H0⟩, Hw1, ⟨%f2, H2⟩, H3, H4, H5⟩, ⟨Hcb, Hab, Hkn, Hit, Hat, Hw⟩, Hx, Hb⟩ Hk
  rw [wp_bind]
  try rw [wp_bind]
  iapply (part1_run X Wt c t m2 h2 m3 h3 m4 h4 _ n1) $$ [HO H3 H4 H5 Hkn]
  · isplitr; · iexact Hr
    isplitl [HO]; · iexact HO
    isplitl [H3]; · iexact H3
    isplitl [H4]; · iexact H4
    isplitl [H5] <;> iassumption
  iintro ⟨HO, H4, Hr0, Hr1, Ham, Hl⟩ %r %hr
  obtain ⟨v24, v41⟩ := r
  cases hr
  dsimp only
  ihave Hl := (Entails.of_eq (Ico_first (show 5 < 8 by omega) _)) $$ Hl
  icases Hl with ⟨⟨Hd, Hg⟩, Hl⟩
  iapply (signal_peer X Wt c (t := 5) (by omega) (by omega) (Fin.ext (k0_dev5_eq c)) rfl rfl) $$ [HO Hd Hg]
  · isplitr; · iexact Hr
    isplitl [HO]; · iexact HO
    isplitl [Hd] <;> iassumption
  iintro HO
  ihave Hl := (Entails.of_eq (Ico_first (show 6 < 8 by omega) _)) $$ Hl
  icases Hl with ⟨⟨Hd, Hg⟩, Hl⟩
  iapply (signal_peer X Wt c (t := 6) (by omega) (by omega) (Fin.ext (k0_dev6_eq c)) rfl rfl) $$ [HO Hd Hg]
  · isplitr; · iexact Hr
    isplitl [HO]; · iexact HO
    isplitl [Hd] <;> iassumption
  iintro HO
  ihave Hl := (Entails.of_eq (Ico_first (show 7 < 8 by omega) _)) $$ Hl
  icases Hl with ⟨⟨Hd, Hg⟩, Hl⟩
  iapply (signal_peer X Wt c (t := 7) (by omega) (by omega) (Fin.ext (k0_dev7_eq c)) rfl rfl) $$ [HO Hd Hg]
  · isplitr; · iexact Hr
    isplitl [HO]; · iexact HO
    isplitl [Hd] <;> iassumption
  iintro HO
  iapply (wait_peers X Wt c rfl rfl) $$ [HO Hcb Hab]
  · isplitr; · iexact Hr
    isplitl [HO]; · iexact HO
    isplitl [Hcb] <;> iassumption
  iintro ⟨HO, Hbar, Hle⟩
  ihave Hle := (borrows c) $$ [Hle Hit Hat]
  · isplitl [Hle]; · iexact Hle
    isplitl [Hit] <;> iassumption
  icases Hle with ⟨Hco, Hax⟩
  ihave Htd := (ready c f2) $$ [H2 Hco]
  · isplitl [H2] <;> iassumption
  ihave H0 := (Entails.of_eq (owns_whole (c : Thread nD τ) cc0_scratch0 fullShare f0).symm) $$ H0
  iapply (load_all c h3 zero2 (wblk Wt c (itemBlk c 0))) $$ Hb
  iintro Hb
  iapply (load_all c (Memref.isWhole_whole _) zero2 f0) $$ H0
  iintro H0
  iapply (store_all c (Memref.isWhole_whole _) zero2 f0) $$ H0
  iintro H0
  iapply run_ret
  iapply Hk
  isplitl [HO]; · iexact HO
  isplitl [Ht H4 H0 Hw1 Htd Hr0 Hr1]
  · isplitl [Ht]; · iexact Ht
    isplitl [H4]; · iexact H4
    isplitl [H0 Hw1]
    · isplitl [H0]; · iexact H0
      icases Hw1 with ⟨%f1, H1⟩
      iexists f1
      iapply (Entails.of_eq (owns_whole (c : Thread nD τ) cc0_scratch1 fullShare f1).symm) $$ H1
    isplitl [Htd]; · iexact Htd
    isplitr
    · unfold sent; iapply (Entails.of_eq (show (iprop(emp) : sProp 𝕄) = bigSep (Finset.range (min 0 14)) _ from rfl)); iempintro
    isplitl [Hr0]
    · iapply (Entails.of_eq (keep_no X Wt c 0 (show ¬ 15 ≤ 0 by omega)).symm) $$ Hr0
    iapply (Entails.of_eq (keep_no X Wt c 1 (show ¬ 16 ≤ 0 by omega)).symm) $$ Hr1
  isplitr [Hx Hb]
  · isplitl [Ham]
    · unfold amaxPts
      iapply (Entails.of_eq (pointsTo_congr fun y hy => ?_)) $$ Ham
      unfold amaxBuf
      rw [if_pos (mem_slot.1 hy)]
    isplitl [Hax]; · iexact Hax
    isplitl [Hw]; · iexact Hw
    iexact Hbar
  isplitl [Hx] <;> iassumption

end

end Cert.KernelIdeal.A2A

end
-- ==== Proof.Finish.lean ====
/- The steps of the last place of the grid: waits in a row, the maxima to the seven others, and the finished blocks into the result. -/
module

public import proofs.«01_k».proof.Proof.State

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → Vec F S512x4096 .bf16) (Wt : Dev nD → Vec F S4096x8192 .bf16) (c : Dev nD)

/-! ## Waits, one after the other -/

/-- The waits at the cells `q a, …, q (b - 1)`, those before `n` done. -/
def bank (q : ℕ → ℕ) (a n b : ℕ) : sProp 𝕄 :=
  iprop(bigSep (Finset.Ico n b) (fun i => got (F := F) c (q i)) ∗ bigSep (Finset.Ico a n) (fun i => iprop(nil (F := F) c (q i) ∗ dpay X Wt c (q i))))

theorem Ico_last {a n : ℕ} (h : a ≤ n) (Ψ : ℕ → sProp 𝕄) : bigSep (Finset.Ico a (n + 1)) Ψ = iprop(Ψ n ∗ bigSep (Finset.Ico a n) Ψ) := by
  rw [show Finset.Ico a (n + 1) = insert n (Finset.Ico a n) from by ext z; simp only [Finset.mem_Ico, Finset.mem_insert]; omega, bigSep_add (by simp)]

theorem bank_wait {α : Type} {Q : α → sProp 𝕄} {k : PUnit → Prog (TpuEff nD τ sig (Elt F) Λ₀ .tc) α} (q : ℕ → ℕ) {a b : ℕ} (n : ℕ) (ha : a ≤ n) (hb : n < b)
    (h : 4 ≤ q n) (h' : q n < 50) {sp sp' : Space} {s s' : Shape} {e e' : EltTy} {sem : DmaSem sig}
    {src : Memref sig .tc sp' s' e'} {dst : Memref sig .tc sp s e} {hsrc : src.view.WordExact} {hdst : dst.view.WordExact}
    (hs : sem = dq (q n)) (hN : dst.view.dmaCredit = damt (q n)) :
    iprop(recs X Wt ∗ ow c 0 ∗ bank X Wt c q a n b)
      ⊢ iprop(((ow c 0 ∗ bank X Wt c q a (n + 1) b) -∗ run c (k ⟨⟩) Q) -∗ run c (.op (.waitDma2 sem src dst hsrc hdst) k) Q) := by
  unfold bank
  rw [Ico_first hb, Ico_last ha]
  unfold got nil run
  iintro ⟨#Hr, HO, ⟨⟨Hc, Hp⟩, Hg⟩, Hd⟩ Hk
  iapply (wait_dma X Wt c h h' hs hN) $$ [HO Hc Hp]
  · isplitr; · iexact Hr
    isplitl [HO]; · iexact HO
    isplitl [Hc] <;> iassumption
  iintro ⟨HO, Hv, Hq⟩
  iapply Hk
  isplitl [HO]; · iexact HO
  isplitl [Hg]; · iexact Hg
  isplitl [Hv Hq]
  · isplitl [Hv] <;> iassumption
  iexact Hd

/-- One thing out of a family, and back. -/
theorem look {s : Finset ℕ} {i : ℕ} (h : i ∈ s) (Ψ : ℕ → sProp 𝕄) : bigSep s Ψ ⊢ iprop(Ψ i ∗ (Ψ i -∗ bigSep s Ψ)) := by
  rw [bigSep_cut h]
  iintro ⟨A, B⟩
  isplitl [A]; · iexact A
  iintro A
  isplitl [A] <;> iassumption

theorem bank_look (q : ℕ → ℕ) {a b n : ℕ} (i : ℕ) (ha : a ≤ i) (hb : i < n) :
    bank X Wt c q a n b ⊢ iprop(dpay X Wt c (q i) ∗ (dpay X Wt c (q i) -∗ bank X Wt c q a n b)) := by
  unfold bank
  iintro ⟨A, B⟩
  ihave B := (look (Finset.mem_Ico.2 ⟨ha, hb⟩) _) $$ B
  icases B with ⟨⟨N, D⟩, W⟩
  isplitl [D]; · iexact D
  iintro D
  isplitl [A]; · iexact A
  iapply W
  isplitl [N] <;> iassumption

def qR (k : ℕ) : ℕ := 18 + (2 * (sub c (k / 2 + 1)).val + k % 2)
def qA (t : ℕ) : ℕ := 42 + (sh c t).val

theorem recv_credit (off inb) {q : ℕ} (h : q < 34) : (recvV off inb).view.dmaCredit = damt q := (if_pos h).symm
theorem send_credit (off inb) {q : ℕ} (h : q < 34) : (sendV off inb).view.dmaCredit = damt q := (if_pos h).symm
theorem amax_credit (off inb) {q : ℕ} (h : ¬ q < 34) : (amaxV off inb).view.dmaCredit = damt q := (if_neg h).symm
theorem acc_credit {q : ℕ} (h : ¬ q < 34) : accM.view.dmaCredit = damt q := (if_neg h).symm

/-! ## The maxima to the seven others -/

def spread (n : ℕ) : sProp 𝕄 :=
  iprop(ow (F := F) c (8 - n) ∗ bigSep (Finset.Ico n 8) (fun t => iprop(accPts X Wt c t ∗ amaxRes (F := F) c t))
    ∗ bigSep (Finset.Ico 1 n) (fun t => cred (tallyAt (dcell c (34 + t)) () NA)))

theorem spread_one {α : Type} {Q : α → sProp 𝕄} {k : PUnit → Prog (TpuEff nD τ sig (Elt F) Λ₀ .tc) α} (t : ℕ) (ht : 1 ≤ t) (ht' : t ≤ 7) {d : Dev nD} {off : Fin 3 → ℕ} {s1 s2 : DmaSem sig}
    (hd : d = sh c t) (ho : off = ![c.val, 0, 0]) (hs1 : s1 = dq (34 + t)) (hs2 : s2 = dq (42 + c.val))
    {inb}
    {hsc : (amaxV off inb : Memref sig (Dev.tc d : Thread nD τ).2.kind .vmem S8x128 .f32).view.ref.isScScratch = false}
    {hsrc : (accM).view.WordExact}
    {hdst : (amaxV off inb).view.WordExact}
    {hsem : DmaTarget.Typed .vmem (.dma s2) (.remote (Dev.tc d : Thread nD τ) (amaxV off inb : Memref sig .tc .vmem S8x128 .f32) (.dma s1) hsc)} :
    iprop(recs X Wt ∗ spread X Wt c t)
      ⊢ iprop((spread X Wt c (t + 1) -∗ run c (k ⟨⟩) Q)
          -∗ run c (.op (.enqueueDma accM (.remote (Dev.tc d : Thread nD τ) (amaxV off inb) (.dma s1) hsc) (.dma s2) hsrc hdst hsem) k) Q) := by
  unfold spread run
  rw [Ico_first (show t < 8 by omega), Ico_last ht]
  iintro ⟨#Hr, HO, ⟨⟨Ha, Hs⟩, Hn⟩, Hc⟩ Hk
  iapply (send_amax X Wt c ht ht' hd ho hs1 hs2) $$ [HO Ha Hs]
  · isplitr; · iexact Hr
    isplitl [HO]; · iexact HO
    isplitl [Ha] <;> iassumption
  iintro ⟨HO, Hd⟩
  iapply Hk
  isplitl [HO]; · rw [show 8 - (t + 1) = 7 - t by omega]; iexact HO
  isplitl [Hn]; · iexact Hn
  isplitl [Hd] <;> iassumption

/-! ## The result -/

abbrev outM : Memref sig .tc .vmem S4096x1024 .bf16 := Memref.whole cc0_stg2_0

/-- The scale and its inverse, from all maxima. -/
def scl : F .f32 := k0_pay16 (amaxBuf X Wt c) (accAt X Wt c 16)
def inv : F .f32 := k0_pay17 (amaxBuf X Wt c) (accAt X Wt c 16)

/-- The finished block from receive slot `k`. -/
def outBlk (k : ℕ) : Vec F S512x512 .bf16 := k0_pay20 (scl X Wt c) (inv X Wt c) (ybk X Wt (dv (k / 2)) (2 * c.val + k % 2))

set_option backward.proofsInPublic true in
def inBlk (z : S4096x1024.Idx) : S512x512.Idx
  | 0 => (⟨(z 0).val % 512, Nat.mod_lt _ (by decide)⟩ : Fin 512)
  | 1 => (⟨(z 1).val % 512, Nat.mod_lt _ (by decide)⟩ : Fin 512)

def blkOf (z : S4096x1024.Idx) : ℕ := 2 * ((z 0).val / 512) + (z 1).val / 512

/-- What the device ends with. -/
def outBuf : Vec F S4096x1024 .bf16 := fun z => outBlk X Wt c (blkOf z) (inBlk z)

/-- The receive slot finished `n`-th. -/
def turn (n : ℕ) : ℕ := 2 * (sub c (n / 2)).val + n % 2

/-- The first `n` blocks are in the result's stage. -/
def out (n : ℕ) : sProp 𝕄 :=
  iprop(∃ f, ⌜∀ m, m < n → ∀ z, blkOf z = turn c m → f z = outBuf X Wt c z⌝ ∗ (c : Thread nD τ).loc cc0_stg2_0 ↦{fullShare} f)

theorem out_zero (f : Buf (Elt F) ((c : Thread nD τ).loc cc0_stg2_0)) : (((c : Thread nD τ).loc cc0_stg2_0 ↦{fullShare} f) : sProp 𝕄) ⊢ out X Wt c 0 := by
  unfold out
  iintro H
  iexists f
  isplitr
  · ipureintro; exact fun m hm => absurd hm (Nat.not_lt_zero m)
  iexact H

theorem out_all : out X Wt c 16 ⊢ (((c : Thread nD τ).loc cc0_stg2_0 ↦{fullShare} outBuf X Wt c) : sProp 𝕄) := by
  unfold out
  iintro ⟨%f, %hf, H⟩
  have e : f = outBuf X Wt c := funext fun z => by
    have hc : c.val < 8 := c.isLt
    have h0 : (z 0).val < 4096 := (z 0).isLt
    have h1 : (z 1).val < 1024 := (z 1).isLt
    refine hf (2 * ((c.val + 8 - (z 0).val / 512) % 8) + (z 1).val / 512) (by omega) z ?_
    unfold blkOf turn
    rw [val_sub]
    omega
  rw [e]
  iexact H

theorem out_rect {n : ℕ} (hn : n < 16) {off : Fin 2 → ℕ} (ho : off = ![512 * (sub c (n / 2)).val, 512 * (n % 2)]) (inb) (z : S4096x1024.Idx) :
    z ∈ (Rect.unit (s := S4096x1024) off S512x512.size inb).set ↔ blkOf z = turn c n := by
  subst ho
  have h1 : (z 1).val < 1024 := (z 1).isLt
  rw [Rect.mem_set_unit]
  unfold blkOf turn
  constructor
  · intro h
    have a0 := h 0; have a1 := h 1
    change 512 * (sub c (n / 2)).val ≤ (z 0).val ∧ (z 0).val < 512 * (sub c (n / 2)).val + 512 at a0
    change 512 * (n % 2) ≤ (z 1).val ∧ (z 1).val < 512 * (n % 2) + 512 at a1
    omega
  · intro h a
    match a with
    | 0 => show 512 * (sub c (n / 2)).val ≤ (z 0).val ∧ (z 0).val < 512 * (sub c (n / 2)).val + 512; omega
    | 1 => show 512 * (n % 2) ≤ (z 1).val ∧ (z 1).val < 512 * (n % 2) + 512; omega

theorem out_emb {n : ℕ} {off : Fin 2 → ℕ} (ho : off = ![512 * (sub c (n / 2)).val, 512 * (n % 2)]) (inb) (z : S4096x1024.Idx) (hz : blkOf z = turn c n) :
    (Rect.unit (s := S4096x1024) off S512x512.size inb).emb (inBlk z) = z := by
  subst ho
  have h1 : (z 1).val < 1024 := (z 1).isLt
  unfold blkOf turn at hz
  funext a
  apply Fin.ext
  rw [Rect.emb_apply]
  match a with
  | 0 => exact (show 512 * (sub c (n / 2)).val + 1 * ((z 0).val % 512) = (z 0).val by omega)
  | 1 => exact (show 512 * (n % 2) + 1 * ((z 1).val % 512) = (z 1).val by omega)

/-- The `n`-th finished block into the result's stage. -/
theorem store_out {α : Type} {Q : α → sProp 𝕄} {k : PUnit → Prog (TpuEff nD τ sig (Elt F) Λ₀ .tc) α} (n : ℕ) (hn : n < 16) {off : Fin 2 → ℕ}
    (ho : off = ![512 * (sub c (n / 2)).val, 512 * (n % 2)]) {w : Vec F S512x512 .bf16} (hw : w = outBlk X Wt c (turn c n)) {inb}
    {hl : outM.view.LoadsAt (Rect.unit (s := S4096x1024) off S512x512.size inb).toLoadRect}
    {hx : (outM.access (Rect.unit (s := S4096x1024) off S512x512.size inb)).Stores Finset.univ} {hm} :
    out X Wt c n
      ⊢ iprop((out X Wt c (n + 1) -∗ run c (k ⟨⟩) Q)
          -∗ run c (.op (.load outM (Rect.unit (s := S4096x1024) off S512x512.size inb).toLoadRect hl) fun _ =>
            .op (.store outM (Rect.unit (s := S4096x1024) off S512x512.size inb) w Finset.univ hx hm) k) Q) := by
  unfold out
  iintro ⟨%f, %hf, Hs⟩ Hk
  iapply (wp_load_rect 𝒱₀ (c : Thread nD τ) none Set.univ (m := outM) (r := Rect.unit (s := S4096x1024) off S512x512.size inb)
    (k := fun _ => .op (.store outM (Rect.unit (s := S4096x1024) off S512x512.size inb) w Finset.univ hx hm) k)
    (S := Finset.univ) (q := fullShare) (f := f) (Finset.subset_univ _)) $$ Hs
  iintro Hs
  iapply (wp_store 𝒱₀ (c : Thread nD τ) none Set.univ (m := outM) (r := Rect.unit (s := S4096x1024) off S512x512.size inb) (Mk := Finset.univ)
    (S := Finset.univ) (f := f) (Finset.subset_univ _)) $$ Hs
  iintro Hs
  iapply Hk
  iexists _
  isplitr
  rotate_left
  · iexact Hs
  ipureintro
  intro m hm z hz
  by_cases h : blkOf z = turn c n
  · conv_lhs => rw [← out_emb c ho inb z h]
    refine (View.write_emb_of_mem (v := outM.access (Rect.unit (s := S4096x1024) off S512x512.size inb)) f w (Finset.mem_univ (inBlk z))).trans ?_
    unfold outBuf
    rw [hw, h]
    rfl
  · refine (View.write_of_not_mem (v := outM.access (Rect.unit (s := S4096x1024) off S512x512.size inb)) f w Finset.univ (i := z) ?_).trans (hf m ?_ z hz)
    · intro hz'
      exact h ((out_rect c hn ho inb z).1 ((View.set_slice_whole _ _ : (outM.access (Rect.unit (s := S4096x1024) off S512x512.size inb)).set = _) ▸ hz'))
    · rcases Nat.lt_succ_iff_lt_or_eq.1 hm with h' | h'
      · exact h'
      · exact absurd (h' ▸ hz) h

/-- A received block. -/
theorem load_recv {α : Type} {Q : α → sProp 𝕄} {k : Vec F S1x512x512 .bf16 → Prog (TpuEff nD τ sig (Elt F) Λ₀ .tc) α} (n : ℕ) {off : Fin 3 → ℕ} (ho : off = ![n, 0, 0]) {inb}
    {hl : recvM.view.LoadsAt (Rect.unit (s := S16x512x512) off S1x512x512.size inb).toLoadRect} :
    recvPts X Wt c n
      ⊢ iprop((recvPts X Wt c n -∗ run c (k (ybk X Wt (dv (n / 2)) (2 * c.val + n % 2))) Q)
          -∗ run c (.op (.load recvM (Rect.unit (s := S16x512x512) off S1x512x512.size inb).toLoadRect hl) k) Q) := by
  unfold recvPts
  iintro Hs Hk
  have e := recv_read ho inb (recvBuf X Wt c) (ybk X Wt (dv (n / 2)) (2 * c.val + n % 2)) (fun y hy => by unfold recvBuf; rw [hy])
  iapply (wp_load_rect 𝒱₀ (c : Thread nD τ) none Set.univ (m := recvM) (r := Rect.unit (s := S16x512x512) off S1x512x512.size inb)
    (k := k) (S := slot 16 512 512 n) (q := fullShare) (f := recvBuf X Wt c) (recv_set ho inb).le) $$ Hs
  rw [e]
  iexact Hk

theorem dpay_recv {n : ℕ} (h : n < 16) : dpay X Wt c (18 + n) = recvPts X Wt c n := by
  unfold dpay; rw [if_neg (by omega), if_pos (by omega), show 18 + n - 18 = n by omega]
theorem dpay_send {n : ℕ} (h : n < 14) : dpay X Wt c (4 + n) = sendPts X Wt c n := by
  unfold dpay; rw [if_pos (by omega), show 4 + n - 4 = n by omega]
theorem dpay_acc {n : ℕ} (h : n < 8) : dpay X Wt c (34 + n) = accPts X Wt c n := by
  unfold dpay; rw [if_neg (by omega), if_neg (by omega), if_pos (by omega), show 34 + n - 34 = n by omega]
theorem dpay_amax (n : ℕ) : dpay X Wt c (42 + n) = amaxPts X Wt c n := by
  unfold dpay; rw [if_neg (by omega), if_neg (by omega), if_neg (by omega), show 42 + n - 42 = n by omega]

theorem bank_recv {n b : ℕ} (i : ℕ) (hb : i < n) (hi : i < 14) :
    bank X Wt c (qR c) 0 n b ⊢ iprop(recvPts X Wt c (turn c (i + 2)) ∗ (recvPts X Wt c (turn c (i + 2)) -∗ bank X Wt c (qR c) 0 n b)) := by
  have h : dpay X Wt c (qR c i) = recvPts X Wt c (turn c (i + 2)) := by
    have hs : (sub c (i / 2 + 1)).val < 8 := (sub c (i / 2 + 1)).isLt
    unfold qR
    rw [dpay_recv X Wt c (by omega)]
    unfold turn
    rw [show (i + 2) / 2 = i / 2 + 1 by omega, show (i + 2) % 2 = i % 2 by omega]
  rw [← h]
  exact bank_look X Wt c (qR c) i (Nat.zero_le i) hb

end

end Cert.KernelIdeal.A2A

end
-- ==== Proof.Parts.lean ====
/- The last place of the grid, one device's two blocks at a time. -/
module

public import proofs.«01_k».proof.Proof.Finish

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body on the buffers it works with. -/
abbrev on {T : Type} (m2 : Memref sig .tc .vmem S512x4096 .bf16) (h2 : m2.IsWhole) (m3 : Memref sig .tc .vmem S4096x512 .bf16) (h3 : m3.IsWhole)
    (p : (a1 : Memref sig .tc .smem S8 .i32) → a1.IsWhole → (a2 : Memref sig .tc .vmem S512x4096 .bf16) → a2.IsWhole
      → (a3 : Memref sig .tc .vmem S4096x512 .bf16) → a3.IsWhole → (a4 : Memref sig .tc .vmem S4096x1024 .bf16) → a4.IsWhole
      → (a5 : Memref sig .tc .vmem S4096x512 .bf16) → a5.IsWhole → (a6 : Memref sig .tc .vmem S4096x512 .bf16) → a6.IsWhole
      → (a7 : Memref sig .tc .vmem S14x512x512 .bf16) → a7.IsWhole → (a8 : Memref sig .tc .vmem S16x512x512 .bf16) → a8.IsWhole
      → (a9 : Memref sig .tc .vmem S8x128 .f32) → a9.IsWhole → (a10 : Memref sig .tc .vmem S8x8x128 .f32) → a10.IsWhole
      → DmaSems sig S14 → DmaSems sig S16 → DmaSems sig S8 → DmaSems sig S8 → T) : T :=
  p (Memref.whole main_v8) (Memref.isWhole_whole _) m2 h2 m3 h3 outM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9

section
variable (X : Dev nD → Vec F S512x4096 .bf16) (Wt : Dev nD → Vec F S4096x8192 .bf16) (c : Dev nD)

theorem qA_in (t : ℕ) : 4 ≤ qA c t ∧ qA c t < 50 ∧ ¬ qA c t < 34 := by
  have h : (sh c t).val < 8 := (sh c t).isLt
  unfold qA; omega
theorem qR_in (t : ℕ) : 4 ≤ qR c t ∧ qR c t < 50 ∧ qR c t < 34 := by
  have h : (sub c (t / 2 + 1)).val < 8 := (sub c (t / 2 + 1)).isLt
  unfold qR; omega

theorem semA (r : ℕ) {off : Fin 1 → ℕ} (ho : off = ![(c.val + r + 1) % 8]) : 42 + off 0 = (dq (qA c (r + 1))).val := by
  rw [dq_val (qA_in c (r + 1)).2.1, ho]; rfl
theorem semR (r s : ℕ) (hr : r < 7) (hs : s < 2) {off : Fin 1 → ℕ} (ho : off = ![2 * ((c.val + 7 - r) % 8) + s]) : 18 + off 0 = (dq (qR c (2 * r + s))).val := by
  rw [dq_val (qR_in c (2 * r + s)).2.1, ho]
  show 18 + (2 * ((c.val + 7 - r) % 8) + s) = _
  unfold qR; rw [val_sub]; omega
theorem atR (r s : ℕ) (hr : r < 7) (hs : s < 2) {off : Fin 3 → ℕ} (ho : off = ![2 * ((c.val + 7 - r) % 8) + s, 0, 0]) : off = ![turn c (2 * r + s + 2), 0, 0] := by
  rw [ho, show 2 * ((c.val + 7 - r) % 8) + s = turn c (2 * r + s + 2) from by unfold turn; rw [val_sub]; omega]
theorem atO (r s : ℕ) (hr : r < 7) (hs : s < 2) {off : Fin 2 → ℕ} (ho : off = ![512 * ((c.val + 7 - r) % 8), 512 * s]) :
    off = ![512 * (sub c ((2 * r + s + 2) / 2)).val, 512 * ((2 * r + s + 2) % 2)] := by
  rw [ho, show (c.val + 7 - r) % 8 = (sub c ((2 * r + s + 2) / 2)).val from by rw [val_sub]; omega, show s = (2 * r + s + 2) % 2 by omega,
    show (2 * r + (2 * r + s + 2) % 2 + 2) / 2 = (2 * r + s + 2) / 2 by omega, show (2 * r + (2 * r + s + 2) % 2 + 2) % 2 = (2 * r + s + 2) % 2 by omega]

/-- The two blocks of one device have come, and the first is loaded. -/
theorem recv_pair {α : Type} {Q : α → sProp 𝕄} {k : Vec F S1x512x512 .bf16 → Prog (TpuEff nD τ sig (Elt F) Λ₀ .tc) α} (r : ℕ) (hr : r < 7)
    {s1 s2 : DmaSem sig} (h1 : s1 = dq (qR c (2 * r + 0))) (h2 : s2 = dq (qR c (2 * r + 1))) {o1 o2 o3 : Fin 3 → ℕ} {i1 i2 i3 i4 i5} {x1 x2 x3 x4}
    (h3 : o3 = ![2 * ((c.val + 7 - r) % 8) + 0, 0, 0])
    {hl : recvM.view.LoadsAt (Rect.unit (s := S16x512x512) o3 S1x512x512.size i5).toLoadRect} :
    iprop(recs X Wt ∗ ow c 0 ∗ bank X Wt c (qR c) 0 (2 * r) 14)
      ⊢ iprop(((ow c 0 ∗ bank X Wt c (qR c) 0 (2 * r + 2) 14) -∗ run c (k (ybk X Wt (dv (turn c (2 * r + 2) / 2)) (2 * c.val + turn c (2 * r + 2) % 2))) Q)
        -∗ run c (.op (.waitDma2 s1 (recvV o1 i1) (recvV o1 i2) x1 x2) fun _ => .op (.waitDma2 s2 (recvV o2 i3) (recvV o2 i4) x3 x4) fun _ =>
            .op (.load recvM (Rect.unit (s := S16x512x512) o3 S1x512x512.size i5).toLoadRect hl) k) Q) := by
  iintro ⟨#Hr, HO, HB⟩ Hk
  iapply (bank_wait X Wt c (qR c) (a := 0) (b := 14) (2 * r) (by omega) (by omega) (qR_in c _).1 (qR_in c _).2.1 h1 (recv_credit _ _ (qR_in c _).2.2)) $$ [HO HB]
  · isplitr; · iexact Hr
    isplitl [HO] <;> iassumption
  iintro ⟨HO, HB⟩
  iapply (bank_wait X Wt c (qR c) (a := 0) (b := 14) (2 * r + 1) (by omega) (by omega) (qR_in c _).1 (qR_in c _).2.1 h2 (recv_credit _ _ (qR_in c _).2.2)) $$ [HO HB]
  · isplitr; · iexact Hr
    isplitl [HO] <;> iassumption
  iintro ⟨HO, HB⟩
  ihave ⟨Hp, HW⟩ := (bank_recv X Wt c (2 * r) (by omega) (by omega)) $$ HB
  iapply (load_recv X Wt c (turn c (2 * r + 2)) (atR c r 0 hr (by omega) h3)) $$ Hp
  iintro Hp
  iapply Hk
  isplitl [HO]; · iexact HO
  iapply HW
  iexact Hp

/-- The two blocks of one device finished. -/
theorem out_pair {α : Type} {Q : α → sProp 𝕄} {k : PUnit → Prog (TpuEff nD τ sig (Elt F) Λ₀ .tc) α} (r : ℕ) (hr : r < 7)
    {o1 o3 : Fin 2 → ℕ} {o2 : Fin 3 → ℕ} {w1 : Vec F S512x512 .bf16} {w2 : Vec F S1x512x512 .bf16 → Vec F S512x512 .bf16} {i1 i2 i3}
    (h1 : o1 = ![512 * ((c.val + 7 - r) % 8), 0]) (h2 : o2 = ![2 * ((c.val + 7 - r) % 8) + 1, 0, 0]) (h3 : o3 = ![512 * ((c.val + 7 - r) % 8), 512])
    (hw1 : w1 = outBlk X Wt c (turn c (2 * r + 2)))
    (hw2 : w2 (ybk X Wt (dv (turn c (2 * r + 3) / 2)) (2 * c.val + turn c (2 * r + 3) % 2)) = outBlk X Wt c (turn c (2 * r + 3)))
    {l1 : outM.view.LoadsAt (Rect.unit (s := S4096x1024) o1 S512x512.size i1).toLoadRect}
    {x1 : (outM.access (Rect.unit (s := S4096x1024) o1 S512x512.size i1)).Stores Finset.univ} {y1}
    {l2 : recvM.view.LoadsAt (Rect.unit (s := S16x512x512) o2 S1x512x512.size i2).toLoadRect}
    {l3 : outM.view.LoadsAt (Rect.unit (s := S4096x1024) o3 S512x512.size i3).toLoadRect}
    {x3 : (outM.access (Rect.unit (s := S4096x1024) o3 S512x512.size i3)).Stores Finset.univ} {y3} :
    iprop(bank X Wt c (qR c) 0 (2 * r + 2) 14 ∗ out X Wt c (2 * r + 2))
      ⊢ iprop(((bank X Wt c (qR c) 0 (2 * r + 2) 14 ∗ out X Wt c (2 * r + 4)) -∗ run c (k ⟨⟩) Q)
        -∗ run c (.op (.load outM (Rect.unit (s := S4096x1024) o1 S512x512.size i1).toLoadRect l1) fun _ =>
            .op (.store outM (Rect.unit (s := S4096x1024) o1 S512x512.size i1) w1 Finset.univ x1 y1) fun _ =>
            .op (.load recvM (Rect.unit (s := S16x512x512) o2 S1x512x512.size i2).toLoadRect l2) fun v =>
            .op (.load outM (Rect.unit (s := S4096x1024) o3 S512x512.size i3).toLoadRect l3) fun _ =>
            .op (.store outM (Rect.unit (s := S4096x1024) o3 S512x512.size i3) (w2 v) Finset.univ x3 y3) k) Q) := by
  iintro ⟨HB, Hf⟩ Hk
  iapply (store_out X Wt c (2 * r + 2) (by omega) (atO c r 0 hr (by omega) h1) hw1) $$ Hf
  iintro Hf
  ihave ⟨Hp, HW⟩ := (bank_recv X Wt c (2 * r + 1) (by omega) (by omega)) $$ HB
  iapply (load_recv X Wt c (turn c (2 * r + 3)) (atR c r 1 hr (by omega) h2)) $$ Hp
  iintro Hp
  iapply (store_out X Wt c (2 * r + 3) (by omega) (atO c r 1 hr (by omega) h3) hw2) $$ Hf
  iintro Hf
  iapply Hk
  isplitl [Hp HW]
  · iapply HW; iexact Hp
  iexact Hf

end

end Cert.KernelIdeal.A2A

end
-- ==== Proof.Ends.lean ====
/- What the last place of the grid starts its waits with, and what it ends with. -/
module

public import proofs.«01_k».proof.Proof.Parts

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → Vec F S512x4096 .bf16) (Wt : Dev nD → Vec F S4096x8192 .bf16) (c : Dev nD)

theorem sub_zero : sub c 0 = c := Fin.ext (by rw [val_sub]; have hc : c.val < 8 := c.isLt; omega)
theorem turn_zero : turn c 0 = 2 * c.val + 0 := by unfold turn; rw [sub_zero]
theorem turn_one : turn c 1 = 2 * c.val + 1 := by unfold turn; rw [sub_zero]

theorem load_acc {α : Type} {Q : α → sProp 𝕄} {off : Fin 2 → ℕ} (h0 : off = fun _ => 0) {q : PosShare TreeShare} {inb}
    {hl : accM.view.LoadsAt (Rect.unit (s := S8x128) off S8x128.size inb).toLoadRect}
    {k : Vec F S8x128 .f32 → Prog (TpuEff nD τ sig (Elt F) Λ₀ .tc) α} (f : Vec F S8x128 .f32) :
    (accL c ↦{q} f) ⊢ iprop(((accL c ↦{q} f) -∗ run c (k f) Q) -∗ run c (.op (.load accM (Rect.unit (s := S8x128) off S8x128.size inb).toLoadRect hl) k) Q) := by
  iintro H Hk
  iapply (wp_load 𝒱₀ (c : Thread nD τ) none Set.univ (m := accM) (Finset.subset_univ _)) $$ H
  rw [show accM.view.readAt (Elt F) (Rect.unit (s := S8x128) off S8x128.size inb).toLoadRect f = f from Memref.readAt_unit_zero (Elt F) cc0_scratch4 h0 inb f]
  iexact Hk

/-- A bank with no wait done, and one with all done. -/
theorem bank_start (q : ℕ → ℕ) (a b : ℕ) : bigSep (Finset.Ico a b) (fun i => got (F := F) c (q i)) ⊢ bank X Wt c q a a b := by
  unfold bank
  rw [Ico_none (le_refl a)]
  iintro H
  isplitl [H]; · iexact H
  iempintro
theorem bank_end (q : ℕ → ℕ) (a b : ℕ) :
    bank X Wt c q a b b ⊢ iprop(bigSep (Finset.Ico a b) (fun i => nil (F := F) c (q i)) ∗ bigSep (Finset.Ico a b) (fun i => dpay X Wt c (q i))) := by
  unfold bank
  rw [zip]
  iintro ⟨-, H⟩
  iexact H

/-- The shares of the maxima: seven lent, the rest kept. -/
theorem acc_split : (accL c ↦{fullShare} accAt X Wt c 16 : sProp 𝕄)
    = iprop((accL c ↦{Transfers.shareDrop fullShare 8} accAt X Wt c 16) ∗ accPts X Wt c 0 ∗ bigSep (Finset.Ico 1 8) (accPts X Wt c)) := by
  rw [← eight_first (accPts X Wt c)]
  exact both (Transfers.pointsTo_toks_range fullShare 8).1 (Transfers.pointsTo_toks_range fullShare 8).2

/-- From the sends' credits to the waits for them. -/
theorem gets {s : Finset ℕ} (q : ℕ → ℕ) (N : ℕ) (hN : ∀ i ∈ s, damt (q i) = N) :
    iprop(bigSep s (fun i => cred (tallyAt (dcell c (q i)) () N)) ∗ bigSep s (fun i => wat (F := F) c (q i))) ⊢ (bigSep s (fun i => got (F := F) c (q i)) : sProp 𝕄) := by
  rw [← zip]
  refine each fun i hi => ?_
  unfold got wat
  rw [hN i hi]

theorem spread_start :
    iprop(ow (F := F) c 7 ∗ bigSep (Finset.Ico 1 8) (accPts X Wt c) ∗ bigSep (Finset.Ico 1 8) (amaxRes (F := F) c)) ⊢ spread X Wt c 1 := by
  unfold spread
  rw [Ico_none (le_refl 1), zip]
  iintro ⟨A, B, C⟩
  isplitl [A]; · iexact A
  isplitl [B C]
  · isplitl [B] <;> iassumption
  iempintro

theorem spread_end : iprop(spread X Wt c 8 ∗ bigSep (Finset.Ico 1 8) (fun t => wat (F := F) c (34 + t))) ⊢ iprop(ow (F := F) c 0 ∗ bank X Wt c (fun t => 34 + t) 1 1 8) := by
  unfold spread
  iintro ⟨⟨A, -, B⟩, C⟩
  isplitl [A]; · iexact A
  iapply (bank_start X Wt c)
  iapply (gets c (fun t => 34 + t) NA (fun i hi => if_neg (by omega)))
  isplitl [B] <;> iassumption

theorem send_start : iprop(sent (F := F) c 14 ∗ bigSep (Finset.range 14) (fun j => wat (F := F) c (4 + j))) ⊢ bank X Wt c (fun j => 4 + j) 0 0 14 := by
  unfold sent
  iintro ⟨A, B⟩
  iapply (bank_start X Wt c)
  rw [← fourteen (fun j => got (F := F) c (4 + j))]
  iapply (gets c (fun j => 4 + j) NY (fun i hi => if_pos (by have := Finset.mem_range.1 hi; omega)))
  isplitl [A] <;> iassumption

theorem recv_start :
    (bigSep (Finset.Ico 1 8) (fun t => iprop(got (F := F) c (18 + 2 * (sub c t).val) ∗ got (F := F) c (18 + (2 * (sub c t).val + 1)))) : sProp 𝕄)
      ⊢ bank X Wt c (qR c) 0 0 14 := by
  refine Entails.trans (Entails.of_eq ?_) (bank_start X Wt c _ _ _)
  rw [← fourteen (fun j => got (F := F) c (qR c j)), items_pairs]
  exact bigSep_congr fun t ht => by
    have := Finset.mem_Ico.1 ht
    unfold qR
    rw [show (2 * t - 2) / 2 + 1 = t by omega, show (2 * t - 1) / 2 + 1 = t by omega, show (2 * t - 2) % 2 = 0 by omega, show (2 * t - 1) % 2 = 1 by omega,
      show 18 + (2 * (sub c t).val + 0) = 18 + 2 * (sub c t).val by omega]

/-- All maxima together. -/
theorem amax_end : iprop(amaxPts X Wt c c.val ∗ bank X Wt c (qA c) 1 8 8)
    ⊢ iprop((amaxL c ↦{fullShare} amaxBuf X Wt c) ∗ bigSep (Finset.Ico 1 8) (fun t => nil (F := F) c (42 + (sh c t).val))) := by
  rw [amax_slots c, eight_sh c]
  iintro ⟨A, B⟩
  ihave ⟨N, D⟩ := (bank_end X Wt c _ _ _) $$ B
  isplitl [A D]
  · isplitl [A]; · unfold amaxPts; iexact A
    iapply (each (fun t _ => ?_)) $$ D
    exact Entails.of_eq (dpay_amax X Wt c _)
  iexact N

theorem recv_end : iprop((recvPts X Wt c (2 * c.val + 0) ∗ recvPts X Wt c (2 * c.val + 1)) ∗ (nil (F := F) c (18 + 2 * c.val) ∗ nil (F := F) c (18 + (2 * c.val + 1))) ∗ bank X Wt c (qR c) 0 14 14)
    ⊢ iprop((recvL c ↦{fullShare} recvBuf X Wt c) ∗ bigSep (Finset.range 16) (fun k => nil (F := F) c (18 + k))) := by
  rw [recv_slots c, pairs_sub c, pairs_sub c]
  iintro ⟨A, B, C⟩
  ihave ⟨N, D⟩ := (bank_end X Wt c _ _ _) $$ C
  isplitl [A D]
  · isplitl [A]; · unfold recvPts; iexact A
    ihave D := (Entails.of_eq ((fourteen (fun j => dpay X Wt c (qR c j))).symm.trans (items_pairs _))) $$ D
    iapply (each (fun t ht => ?_)) $$ D
    have := Finset.mem_Ico.1 ht
    have h8 : (sub c t).val < 8 := (sub c t).isLt
    unfold qR
    rw [show (2 * t - 2) / 2 + 1 = t by omega, show (2 * t - 1) / 2 + 1 = t by omega, show (2 * t - 2) % 2 = 0 by omega, show (2 * t - 1) % 2 = 1 by omega,
      dpay_recv X Wt c (by omega), dpay_recv X Wt c (by omega)]
    exact .rfl
  isplitl [B]; · iexact B
  ihave N := (Entails.of_eq ((fourteen (fun j => nil (F := F) c (qR c j))).symm.trans (items_pairs _))) $$ N
  iapply (each (fun t ht => ?_)) $$ N
  have := Finset.mem_Ico.1 ht
  unfold qR
  rw [show (2 * t - 2) / 2 + 1 = t by omega, show (2 * t - 1) / 2 + 1 = t by omega, show (2 * t - 2) % 2 = 0 by omega, show (2 * t - 1) % 2 = 1 by omega]
  exact .rfl

theorem send_end : bank X Wt c (fun j => 4 + j) 0 14 14
    ⊢ iprop((sendL c ↦{fullShare} sendBuf X Wt c) ∗ bigSep (Finset.range 14) (fun k => nil (F := F) c (4 + k))) := by
  rw [send_slots c, fourteen, fourteen]
  refine (bank_end X Wt c _ _ _).trans ?_
  iintro ⟨N, D⟩
  isplitl [D]
  · iapply (each (fun t ht => ?_)) $$ D
    have := Finset.mem_Ico.1 ht
    exact Entails.of_eq (dpay_send X Wt c (by omega))
  iexact N

theorem acc_end : iprop(((accL c ↦{Transfers.shareDrop fullShare 8} accAt X Wt c 16) ∗ accPts X Wt c 0) ∗ nil (F := F) c 34 ∗ bank X Wt c (fun t => 34 + t) 1 8 8)
    ⊢ iprop((accL c ↦{fullShare} accAt X Wt c 16) ∗ bigSep (Finset.range 8) (fun k => nil (F := F) c (34 + k))) := by
  rw [acc_split, eight_first]
  iintro ⟨⟨A, B⟩, C, D⟩
  ihave ⟨N, D⟩ := (bank_end X Wt c _ _ _) $$ D
  isplitl [A B D]
  · isplitl [A]; · iexact A
    isplitl [B]; · iexact B
    iapply (each (fun t ht => ?_)) $$ D
    have := Finset.mem_Ico.1 ht
    exact Entails.of_eq (dpay_acc X Wt c (by omega))
  isplitl [C] <;> iassumption

/-- All cells at rest. -/
theorem all_quiet : iprop(semVal (barCell c) 0 ∗ bigSep (Finset.range 14) (fun k => nil (F := F) c (4 + k)) ∗ bigSep (Finset.range 16) (fun k => nil (F := F) c (18 + k))
      ∗ bigSep (Finset.range 8) (fun k => nil (F := F) c (34 + k)) ∗ nil (F := F) c (42 + c.val) ∗ bigSep (Finset.Ico 1 8) (fun t => nil (F := F) c (42 + (sh c t).val)))
    ⊢ quiet (F := F) c := by
  unfold quiet
  rw [own_cells, eight_sh c (fun k => nil (F := F) c (42 + k))]

end

end Cert.KernelIdeal.A2A

end
-- ==== Proof.Last.lean ====
/- The last place of the grid. -/
module

public import proofs.«01_k».proof.Proof.Ends
public import proofs.«01_k».proof.Proof.Even

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → Vec F S512x4096 .bf16) (Wt : Dev nD → Vec F S4096x8192 .bf16) (c : Dev nD)

theorem semM {off : Fin 1 → ℕ} (ho : off = ![c.val]) {inb} :
    (((SemArray.consecutive (n := 50) 42 (⟨1, ![8]⟩ : Shape) (by decide)).slice (Rect.unit (s := ⟨1, ![8]⟩) off S1.size inb)).squeeze S_ squeezes_S1_S_).sem = dq (42 + c.val) :=
  sem_at _ _ _ (by have hc : c.val < 8 := c.isLt; rw [dq_val (by omega), ho]; rfl)

set_option maxHeartbeats 8000000 in
set_option maxRecDepth 16000 in
/-- The last place: the last item, then the maxima to all, the scale, and all sixteen blocks into the result. -/
theorem step_last (t : Fin grid0.N) (et : t.val = 16) (m2 h2 m3 h3) (fm : Vec F S4096x512 .bf16) (fo : Buf (Elt F) ((c : Thread nD τ).loc cc0_stg2_0)) {Q : PUnit → sProp 𝕄} :
    iprop(recs X Wt ∗ ow c 7 ∗ mid X Wt c 15 ∗ rest X Wt c ∗ own c m2 (X c) ∗ own c m3 fm ∗ (c : Thread nD τ).loc cc0_stg2_0 ↦{fullShare} fo)
    ⊢ iprop(((ow c 0 ∗ tab (F := F) c ∗ bufs (F := F) c ∗ quiet (F := F) c ∗ own c m2 (X c) ∗ own c m3 fm
          ∗ (c : Thread nD τ).loc cc0_stg2_0 ↦{fullShare} outBuf X Wt c) -∗ Q ⟨⟩)
      -∗ run c (bodyAt (F := F) t m2 h2 m3 h3 outM (Memref.isWhole_whole _)) Q) := by
  have ht : t.val % 2 = 0 := by omega
  have n1 : ¬ k0_cond1 (grid0.coords t) = 1#1 := fun h => by have := (cond1_iff t).1 h; omega
  have n2 : k0_cond2 (grid0.coords t) = 1#1 := (cond2_iff t).2 ht
  have n3 : k0_cond3 (grid0.coords t) = 1#1 := (cond3_iff t).2 (by omega)
  have n4 : ¬ k0_cond4 (grid0.coords t) = 1#1 := fun h => by have := (cond4_iff t ht).1 h; omega
  have n5 : k0_cond5 (grid0.coords t) = 1#1 := (cond5_iff t ht).2 (by omega)
  have n6 := mt (cond6_iff t).1 (by omega)
  have n7 : ¬ k0_cond7 (grid0.coords t) = 1#1 := fun h => by have := (cond7_iff t).1 h; omega
  have n10 : k0_cond10 (grid0.coords t) = 1#1 := (cond10_iff t).2 et
  unfold bodyAt
  simp only [cc0_body_eq_skeleton]
  unfold cc0_body_skel
  simp only [dif_neg n1, dif_pos n2, dif_pos n3, dif_neg n4, dif_pos n5, dif_neg n6, dif_neg n7, dif_pos n10, Prog.lift, Prog.bind_op, Prog.bind_ret, Prog.pure_eq_ret]
  unfold run mid wbufs
  rw [wp_deviceId, if_neg (by omega : ¬ 15 % 2 = 0), keep_yes X Wt c 0 (by omega : 15 ≤ 15), keep_no X Wt c 1 (by omega : ¬ 16 ≤ 15)]
  unfold rest waits
  iintro ⟨#Hr, HO, ⟨Ht, Ha, ⟨Hw1, ⟨%fw, Hw0⟩⟩, -, Hs, H0, H1⟩, ⟨Hm, Hres, ⟨Wsend, Wrecv, Wacc, Wamax, Nself, N34, N42⟩, Hbar⟩, Hx, Hb, Hf⟩ Hk
  rw [wp_bind]
  try rw [wp_bind]
  iapply (part2_run c t ht (by omega) m2 h2 m3 h3 outM (Memref.isWhole_whole _) _ n2 n3 (X c) (wb Wt c (itemBlk c 15)) (accAt X Wt c 15)) $$ [Ht Hx Hw1 Ha]
  · isplitl [Ht]; · iexact Ht
    isplitl [Hx]; · iexact Hx
    isplitl [Hw1]; · iexact Hw1
    iexact Ha
  iintro ⟨Ht, Hx, Hw1, Ha⟩ %r %hr
  obtain ⟨v39, v41, v43, hw1, v59⟩ := r
  obtain ⟨rfl, rfl⟩ := hr
  dsimp only
  iapply (keep_slot X Wt c (h := 1) (by omega) ((off8_at t ht (by omega) c).trans (by rw [et])) (w := k0_pay2 (k0_pay11 (X c) (wb Wt c (itemBlk c 15)))) rfl) $$ H1
  iintro H1
  simp only [k0_part4_eq_skeleton, k0_part5_eq_skeleton, k0_part6_eq_skeleton, k0_part7_eq_skeleton, k0_part8_eq_skeleton]
  unfold k0_part4_skel k0_part5_skel k0_part6_skel k0_part7_skel k0_part8_skel
  simp only [Prog.lift, Prog.bind_op, Prog.bind_ret, Prog.pure_eq_ret]
  have e16 : k0_pay10 (X c) (wb Wt c (itemBlk c 15)) (accAt X Wt c 15) = accAt X Wt c 16 := by conv_rhs => rw [show (16 : ℕ) = 15 + 1 from rfl, accAt]
  ihave Ha := (Entails.of_eq ((congrArg (own c accM) e16).trans (owns_whole (c : Thread nD τ) cc0_scratch4 fullShare (accAt X Wt c 16)))) $$ Ha
  ihave Ha := (Entails.of_eq (acc_split X Wt c)) $$ Ha
  icases Ha with ⟨Hk0, Hk1, Ha⟩
  ihave HS := (spread_start X Wt c) $$ [HO Ha Hres]
  · isplitl [HO]; · iexact HO
    isplitl [Ha] <;> iassumption
  iapply (spread_one X Wt c 1 (by omega) (by omega) (Fin.ext (k0_dev10_eq c)) (k0_off17_eq c) (sem_at _ (dq (34 + 1)) _ rfl) (semM c (k0_off16_eq c))) $$ [HS]
  · isplitr; · iexact Hr
    iexact HS
  iintro HS
  iapply (spread_one X Wt c 2 (by omega) (by omega) (Fin.ext (k0_dev11_eq c)) (k0_off17_eq c) (sem_at _ (dq (34 + 2)) _ rfl) (semM c (k0_off16_eq c))) $$ [HS]
  · isplitr; · iexact Hr
    iexact HS
  iintro HS
  iapply (spread_one X Wt c 3 (by omega) (by omega) (Fin.ext (k0_dev12_eq c)) (k0_off17_eq c) (sem_at _ (dq (34 + 3)) _ rfl) (semM c (k0_off16_eq c))) $$ [HS]
  · isplitr; · iexact Hr
    iexact HS
  iintro HS
  iapply (spread_one X Wt c 4 (by omega) (by omega) (Fin.ext (k0_dev13_eq c)) (k0_off17_eq c) (sem_at _ (dq (34 + 4)) _ rfl) (semM c (k0_off16_eq c))) $$ [HS]
  · isplitr; · iexact Hr
    iexact HS
  iintro HS
  iapply (spread_one X Wt c 5 (by omega) (by omega) (Fin.ext (k0_dev14_eq c)) (k0_off17_eq c) (sem_at _ (dq (34 + 5)) _ rfl) (semM c (k0_off16_eq c))) $$ [HS]
  · isplitr; · iexact Hr
    iexact HS
  iintro HS
  iapply (spread_one X Wt c 6 (by omega) (by omega) (Fin.ext (k0_dev15_eq c)) (k0_off17_eq c) (sem_at _ (dq (34 + 6)) _ rfl) (semM c (k0_off16_eq c))) $$ [HS]
  · isplitr; · iexact Hr
    iexact HS
  iintro HS
  iapply (spread_one X Wt c 7 (by omega) (by omega) (Fin.ext (k0_dev16_eq c)) (k0_off17_eq c) (sem_at _ (dq (34 + 7)) _ rfl) (semM c (k0_off16_eq c))) $$ [HS]
  · isplitr; · iexact Hr
    iexact HS
  iintro HS

  ihave ⟨HO, HT⟩ := (spread_end X Wt c) $$ [HS Wacc]
  · isplitl [HS] <;> iassumption
  ihave HB := (bank_start X Wt c (qA c) 1 8) $$ [Wamax]
  · unfold qA; iexact Wamax
  iapply (bank_wait X Wt c (qA c) (a := 1) (b := 8) 1 (by omega) (by omega) (qA_in c _).1 (qA_in c _).2.1 (sem_at _ _ _ (semA c 0 (k0_off18_eq c 0))) (amax_credit _ _ (qA_in c _).2.2)) $$ [HO HB]
  · isplitr; · iexact Hr
    isplitl [HO] <;> iassumption
  iintro ⟨HO, HB⟩
  iapply (bank_wait X Wt c (qA c) (a := 1) (b := 8) 2 (by omega) (by omega) (qA_in c _).1 (qA_in c _).2.1 (sem_at _ _ _ (semA c 1 (k0_off18_eq c 1))) (amax_credit _ _ (qA_in c _).2.2)) $$ [HO HB]
  · isplitr; · iexact Hr
    isplitl [HO] <;> iassumption
  iintro ⟨HO, HB⟩
  iapply (bank_wait X Wt c (qA c) (a := 1) (b := 8) 3 (by omega) (by omega) (qA_in c _).1 (qA_in c _).2.1 (sem_at _ _ _ (semA c 2 (k0_off18_eq c 2))) (amax_credit _ _ (qA_in c _).2.2)) $$ [HO HB]
  · isplitr; · iexact Hr
    isplitl [HO] <;> iassumption
  iintro ⟨HO, HB⟩
  iapply (bank_wait X Wt c (qA c) (a := 1) (b := 8) 4 (by omega) (by omega) (qA_in c _).1 (qA_in c _).2.1 (sem_at _ _ _ (semA c 3 (k0_off18_eq c 3))) (amax_credit _ _ (qA_in c _).2.2)) $$ [HO HB]
  · isplitr; · iexact Hr
    isplitl [HO] <;> iassumption
  iintro ⟨HO, HB⟩
  iapply (bank_wait X Wt c (qA c) (a := 1) (b := 8) 5 (by omega) (by omega) (qA_in c _).1 (qA_in c _).2.1 (sem_at _ _ _ (semA c 4 (k0_off18_eq c 4))) (amax_credit _ _ (qA_in c _).2.2)) $$ [HO HB]
  · isplitr; · iexact Hr
    isplitl [HO] <;> iassumption
  iintro ⟨HO, HB⟩
  iapply (bank_wait X Wt c (qA c) (a := 1) (b := 8) 6 (by omega) (by omega) (qA_in c _).1 (qA_in c _).2.1 (sem_at _ _ _ (semA c 5 (k0_off18_eq c 5))) (amax_credit _ _ (qA_in c _).2.2)) $$ [HO HB]
  · isplitr; · iexact Hr
    isplitl [HO] <;> iassumption
  iintro ⟨HO, HB⟩
  iapply (bank_wait X Wt c (qA c) (a := 1) (b := 8) 7 (by omega) (by omega) (qA_in c _).1 (qA_in c _).2.1 (sem_at _ _ _ (semA c 6 (k0_off18_eq c 6))) (amax_credit _ _ (qA_in c _).2.2)) $$ [HO HB]
  · isplitr; · iexact Hr
    isplitl [HO] <;> iassumption
  iintro ⟨HO, HB⟩

  ihave ⟨Hm, N42s⟩ := (amax_end X Wt c) $$ [Hm HB]
  · isplitl [Hm] <;> iassumption
  ihave Hm := (Entails.of_eq (owns_whole (c : Thread nD τ) cc0_scratch5 fullShare (amaxBuf X Wt c)).symm) $$ Hm
  iapply (load_all c (Memref.isWhole_whole _) zero3 (amaxBuf X Wt c)) $$ Hm
  iintro Hm
  iapply (load_acc c zero2 (accAt X Wt c 16)) $$ Hk0
  iintro Hk0
  ihave H0 := (Entails.of_eq (congrArg (recvPts X Wt c) (turn_zero c).symm)) $$ H0
  ihave H1 := (Entails.of_eq (congrArg (recvPts X Wt c) (turn_one c).symm)) $$ H1
  iapply (load_recv X Wt c (turn c 0) ((k0_off20_eq c 0).trans (by rw [turn_zero]; rfl))) $$ H0
  iintro H0
  dsimp only
  simp only [k0_part9_eq_skeleton]
  unfold k0_part9_skel
  simp only [Prog.lift, Prog.bind_op, Prog.bind_ret, Prog.pure_eq_ret]
  ihave Hf := (out_zero X Wt c fo) $$ Hf
  iapply (store_out X Wt c 0 (by omega) ((k0_off21_eq c).trans (by rw [sub_zero])) rfl) $$ Hf
  iintro Hf
  iapply (load_recv X Wt c (turn c 1) ((k0_off20_eq c 1).trans (by rw [turn_one]; rfl))) $$ H1
  iintro H1
  iapply (store_out X Wt c 1 (by omega) ((k0_off22_eq c).trans (by rw [sub_zero])) rfl) $$ Hf
  iintro Hf
  ihave HB := (recv_start X Wt c) $$ Wrecv
  simp only [k0_part10_eq_skeleton, k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton, k0_part23_eq_skeleton]
  unfold k0_part10_skel k0_part11_skel k0_part12_skel k0_part13_skel k0_part14_skel k0_part15_skel k0_part16_skel k0_part17_skel k0_part18_skel k0_part19_skel k0_part20_skel
    k0_part21_skel k0_part22_skel k0_part23_skel
  simp only [Prog.lift, Prog.bind_op, Prog.bind_ret, Prog.pure_eq_ret]
  iapply (recv_pair X Wt c 0 (by omega) (sem_at _ _ _ (semR c 0 0 (by omega) (by omega) (k0_off23_eq c 0 0))) (sem_at _ _ _ (semR c 0 1 (by omega) (by omega) (k0_off23_eq c 0 1))) (k0_off25_eq c 0 0)) $$ [HO HB]
  · isplitr; · iexact Hr
    isplitl [HO] <;> iassumption
  iintro ⟨HO, HB⟩
  iapply (out_pair X Wt c 0 (by omega) (k0_off26_eq c 0) (k0_off25_eq c 0 1) (k0_off27_eq c 0) rfl rfl) $$ [HB Hf]
  · isplitl [HB] <;> iassumption
  iintro ⟨HB, Hf⟩
  iapply (recv_pair X Wt c 1 (by omega) (sem_at _ _ _ (semR c 1 0 (by omega) (by omega) (k0_off23_eq c 1 0))) (sem_at _ _ _ (semR c 1 1 (by omega) (by omega) (k0_off23_eq c 1 1))) (k0_off25_eq c 1 0)) $$ [HO HB]
  · isplitr; · iexact Hr
    isplitl [HO] <;> iassumption
  iintro ⟨HO, HB⟩
  iapply (out_pair X Wt c 1 (by omega) (k0_off26_eq c 1) (k0_off25_eq c 1 1) (k0_off27_eq c 1) rfl rfl) $$ [HB Hf]
  · isplitl [HB] <;> iassumption
  iintro ⟨HB, Hf⟩
  iapply (recv_pair X Wt c 2 (by omega) (sem_at _ _ _ (semR c 2 0 (by omega) (by omega) (k0_off23_eq c 2 0))) (sem_at _ _ _ (semR c 2 1 (by omega) (by omega) (k0_off23_eq c 2 1))) (k0_off25_eq c 2 0)) $$ [HO HB]
  · isplitr; · iexact Hr
    isplitl [HO] <;> iassumption
  iintro ⟨HO, HB⟩
  iapply (out_pair X Wt c 2 (by omega) (k0_off26_eq c 2) (k0_off25_eq c 2 1) (k0_off27_eq c 2) rfl rfl) $$ [HB Hf]
  · isplitl [HB] <;> iassumption
  iintro ⟨HB, Hf⟩
  iapply (recv_pair X Wt c 3 (by omega) (sem_at _ _ _ (semR c 3 0 (by omega) (by omega) (k0_off23_eq c 3 0))) (sem_at _ _ _ (semR c 3 1 (by omega) (by omega) (k0_off23_eq c 3 1))) (k0_off25_eq c 3 0)) $$ [HO HB]
  · isplitr; · iexact Hr
    isplitl [HO] <;> iassumption
  iintro ⟨HO, HB⟩
  iapply (out_pair X Wt c 3 (by omega) (k0_off26_eq c 3) (k0_off25_eq c 3 1) (k0_off27_eq c 3) rfl rfl) $$ [HB Hf]
  · isplitl [HB] <;> iassumption
  iintro ⟨HB, Hf⟩
  iapply (recv_pair X Wt c 4 (by omega) (sem_at _ _ _ (semR c 4 0 (by omega) (by omega) (k0_off23_eq c 4 0))) (sem_at _ _ _ (semR c 4 1 (by omega) (by omega) (k0_off23_eq c 4 1))) (k0_off25_eq c 4 0)) $$ [HO HB]
  · isplitr; · iexact Hr
    isplitl [HO] <;> iassumption
  iintro ⟨HO, HB⟩
  iapply (out_pair X Wt c 4 (by omega) (k0_off26_eq c 4) (k0_off25_eq c 4 1) (k0_off27_eq c 4) rfl rfl) $$ [HB Hf]
  · isplitl [HB] <;> iassumption
  iintro ⟨HB, Hf⟩
  iapply (recv_pair X Wt c 5 (by omega) (sem_at _ _ _ (semR c 5 0 (by omega) (by omega) (k0_off23_eq c 5 0))) (sem_at _ _ _ (semR c 5 1 (by omega) (by omega) (k0_off23_eq c 5 1))) (k0_off25_eq c 5 0)) $$ [HO HB]
  · isplitr; · iexact Hr
    isplitl [HO] <;> iassumption
  iintro ⟨HO, HB⟩
  iapply (out_pair X Wt c 5 (by omega) (k0_off26_eq c 5) (k0_off25_eq c 5 1) (k0_off27_eq c 5) rfl rfl) $$ [HB Hf]
  · isplitl [HB] <;> iassumption
  iintro ⟨HB, Hf⟩
  iapply (recv_pair X Wt c 6 (by omega) (sem_at _ _ _ (semR c 6 0 (by omega) (by omega) (k0_off23_eq c 6 0))) (sem_at _ _ _ (semR c 6 1 (by omega) (by omega) (k0_off23_eq c 6 1))) (k0_off25_eq c 6 0)) $$ [HO HB]
  · isplitr; · iexact Hr
    isplitl [HO] <;> iassumption
  iintro ⟨HO, HB⟩
  iapply (out_pair X Wt c 6 (by omega) (k0_off26_eq c 6) (k0_off25_eq c 6 1) (k0_off27_eq c 6) rfl rfl) $$ [HB Hf]
  · isplitl [HB] <;> iassumption
  iintro ⟨HB, Hf⟩

  ihave ⟨Hrecv, N18s⟩ := (recv_end X Wt c) $$ [H0 H1 Nself HB]
  · isplitl [H0 H1]
    · isplitl [H0]
      · iapply (Entails.of_eq (congrArg (recvPts X Wt c) (turn_zero c))); iexact H0
      iapply (Entails.of_eq (congrArg (recvPts X Wt c) (turn_one c))); iexact H1
    isplitl [Nself] <;> iassumption
  ihave HB := (send_start X Wt c) $$ [Hs Wsend]
  · isplitl [Hs]; · iexact Hs
    iexact Wsend
  simp only [k0_part24_eq_skeleton, k0_part25_eq_skeleton, k0_part26_eq_skeleton, k0_part27_eq_skeleton]
  unfold k0_part24_skel k0_part25_skel k0_part26_skel k0_part27_skel
  simp only [Prog.lift, Prog.bind_op, Prog.bind_ret, Prog.pure_eq_ret]
  iapply (bank_wait X Wt c (fun j => 4 + j) (a := 0) (b := 14) 0 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 1 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 2 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 3 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 4 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 5 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 6 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 7 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 8 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 9 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 10 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 11 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 12 (by omega) (by omega) (by omega) (by omega) (sem_at _ _ _ rfl) (send_credit _ _ (by omega))) $$ [HO HB]
  · isplitr; · iexact Hr
    isplitl [HO] <;> iassumption
  iintro ⟨HO, HB⟩
  iapply (bank_wait X Wt c (fun j => 4 + j) (a := 0) (b := 14) 13 (by omega) (by omega) (by omega) (by omega) (sem_at _ _ _ rfl) (send_credit _ _ (by omega))) $$ [HO HB]
  · isplitr; · iexact Hr
    isplitl [HO] <;> iassumption
  iintro ⟨HO, HB⟩

  ihave ⟨Hsend, N4s⟩ := (send_end X Wt c) $$ HB
  iapply (bank_wait X Wt c (fun t => 34 + t) (a := 1) (b := 8) 1 (by omega) (by omega) (by omega) (by omega) (sem_at _ _ _ rfl) (acc_credit (by omega))) $$ [HO HT]
  · isplitr; · iexact Hr
    isplitl [HO] <;> iassumption
  iintro ⟨HO, HT⟩
  iapply (bank_wait X Wt c (fun t => 34 + t) (a := 1) (b := 8) 2 (by omega) (by omega) (by omega) (by omega) (sem_at _ _ _ rfl) (acc_credit (by omega))) $$ [HO HT]
  · isplitr; · iexact Hr
    isplitl [HO] <;> iassumption
  iintro ⟨HO, HT⟩
  iapply (bank_wait X Wt c (fun t => 34 + t) (a := 1) (b := 8) 3 (by omega) (by omega) (by omega) (by omega) (sem_at _ _ _ rfl) (acc_credit (by omega))) $$ [HO HT]
  · isplitr; · iexact Hr
    isplitl [HO] <;> iassumption
  iintro ⟨HO, HT⟩
  iapply (bank_wait X Wt c (fun t => 34 + t) (a := 1) (b := 8) 4 (by omega) (by omega) (by omega) (by omega) (sem_at _ _ _ rfl) (acc_credit (by omega))) $$ [HO HT]
  · isplitr; · iexact Hr
    isplitl [HO] <;> iassumption
  iintro ⟨HO, HT⟩
  iapply (bank_wait X Wt c (fun t => 34 + t) (a := 1) (b := 8) 5 (by omega) (by omega) (by omega) (by omega) (sem_at _ _ _ rfl) (acc_credit (by omega))) $$ [HO HT]
  · isplitr; · iexact Hr
    isplitl [HO] <;> iassumption
  iintro ⟨HO, HT⟩
  iapply (bank_wait X Wt c (fun t => 34 + t) (a := 1) (b := 8) 6 (by omega) (by omega) (by omega) (by omega) (sem_at _ _ _ rfl) (acc_credit (by omega))) $$ [HO HT]
  · isplitr; · iexact Hr
    isplitl [HO] <;> iassumption
  iintro ⟨HO, HT⟩
  iapply (bank_wait X Wt c (fun t => 34 + t) (a := 1) (b := 8) 7 (by omega) (by omega) (by omega) (by omega) (sem_at _ _ _ rfl) (acc_credit (by omega))) $$ [HO HT]
  · isplitr; · iexact Hr
    isplitl [HO] <;> iassumption
  iintro ⟨HO, HT⟩

  ihave ⟨Hacc, N34s⟩ := (acc_end X Wt c) $$ [Hk0 Hk1 N34 HT]
  · isplitl [Hk0 Hk1]
    · isplitl [Hk0] <;> iassumption
    isplitl [N34] <;> iassumption
  iapply run_ret
  iapply Hk
  isplitl [HO]; · iexact HO
  isplitl [Ht]; · iexact Ht
  isplitl [Hw0 Hw1 Hsend Hrecv Hacc Hm]
  · unfold bufs
    isplitl [Hw0]; · iexists fw; iapply (Entails.of_eq (owns_whole (c : Thread nD τ) cc0_scratch0 fullShare fw)); iexact Hw0
    isplitl [Hw1]; · iexists _; iapply (Entails.of_eq (owns_whole (c : Thread nD τ) cc0_scratch1 fullShare _)); iexact Hw1
    isplitl [Hsend]; · iexists _; iexact Hsend
    isplitl [Hrecv]; · iexists _; iexact Hrecv
    isplitl [Hacc]; · iexists _; iexact Hacc
    iexists _; iapply (Entails.of_eq (owns_whole (c : Thread nD τ) cc0_scratch5 fullShare _)); iexact Hm
  isplitl [Hbar N4s N18s N34s N42 N42s]
  · iapply (all_quiet c)
    isplitl [Hbar]; · iexact Hbar
    isplitl [N4s]; · iexact N4s
    isplitl [N18s]; · iexact N18s
    isplitl [N34s]; · iexact N34s
    isplitl [N42] <;> iassumption
  isplitl [Hx]; · iexact Hx
  isplitl [Hb]; · iexact Hb
  iapply (out_all X Wt c); iexact Hf

end

end Cert.KernelIdeal.A2A

end
-- ==== Proof.Dats.lean ====
/- The windows of one device, and what it holds at each place of the grid. -/
module

public import proofs.«01_k».proof.Proof.First
public import proofs.«01_k».proof.Proof.Odd
public import proofs.«01_k».proof.Proof.Even
public import proofs.«01_k».proof.Proof.Last
public import Idealize.ShloMosaic.Lib.Pipeline.Value

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The table a device runs with, admissible. -/
def adm (c : Dev nD) : (pcfg0 (F := F)).Adm := ⟨tabC c, ok_tab c⟩

section
variable (V : (c : Dev nD) → (b : Ref sig .tc) → Buf (Elt F) ((c : Thread nD τ).loc b))

/-- The rows of each device, and its copy of the weights. -/
abbrev rows (c : Dev nD) : Vec F S512x4096 .bf16 := V c main_arg0
abbrev wts (c : Dev nD) : Vec F S4096x8192 .bf16 := V c main_arg1

/-- What a device holds before place `t`. -/
def hold (c : Dev nD) (t : ℕ) : sProp 𝕄 :=
  if t = 0 then iprop(recs (rows V) (wts V) ∗ tab (F := F) c ∗ bufs (F := F) c ∗ begin_ (F := F) c)
  else if t = 17 then iprop(tab (F := F) c ∗ bufs (F := F) c ∗ quiet (F := F) c)
  else iprop(recs (rows V) (wts V) ∗ mid (rows V) (wts V) c (t - 1) ∗ rest (rows V) (wts V) c)

/-- How much of what it owes is left before place `t`. -/
def debt (t : ℕ) : ℕ := if t = 0 then 28 else if t = 17 then 0 else 21 - min (t - 1) 14

def dats (_ : Fin 1) (c : Dev nD) : Pipeline.Dat τ (Elt F) Unit ℕ UU ℕ (cfg0 (adm (F := F) c)) c where
  A w := V c (Pipeline.arrRef spec0 w)
  after w t := match w with
    | 0 => rows V c
    | 1 => wblk (wts V) c (itemBlk c (min t.val 15))
    | 2 => outBuf (rows V) (wts V) c
    | ⟨_ + 3, h⟩ => absurd h (Nat.not_lt.2 (Nat.le_add_left _ _))
  Φ t := hold V c t.val
  q _ := fullShare
  owed t := rem c (debt t.val)

theorem index1 (c : Dev nD) (t : Fin grid0.N) : ((cfg0 (adm (F := F) c)).win 1).index t = ![0, itemBlk c (min t.val 15)] := tr1 c t

theorem item_moves : ∀ c : Dev nD, ∀ t : Fin 16, t.val ≠ 0 → itemBlk c (min t.val 15) ≠ itemBlk c (min (t.val - 1) 15) := by decide +kernel

theorem items_lt (c : Dev nD) (k : ℕ) : itemBlk c (min k 15) < 16 := by
  have h : ∀ c : Dev nD, ∀ t : Fin 16, itemBlk c t.val < 16 := by decide +kernel
  exact h c ⟨min k 15, by omega⟩

theorem fetch0_first (c : Dev nD) (t : Fin grid0.N) (h : t.val = 0) : ((cfg0 (adm (F := F) c)).win 0).fetch t = true := by
  unfold Pipeline.Window.fetch
  exact (Bool.true_and _).trans ((congrArg (· || _) (decide_eq_true h)).trans (Bool.true_or _))
theorem fetch0_later (c : Dev nD) (t : Fin grid0.N) (h : t.val ≠ 0) : ((cfg0 (adm (F := F) c)).win 0).fetch t = false := by
  unfold Pipeline.Window.fetch
  rw [decide_eq_false h, decide_eq_false (by rintro ⟨_, hn⟩; exact hn rfl)]; rfl
theorem fetch1 (c : Dev nD) (t : Fin grid0.N) (h : t.val < 16) : ((cfg0 (adm (F := F) c)).win 1).fetch t = true := by
  unfold Pipeline.Window.fetch
  by_cases h0 : t.val = 0
  · exact (Bool.true_and _).trans ((congrArg (· || _) (decide_eq_true h0)).trans (Bool.true_or _))
  refine (Bool.true_and _).trans ((congrArg (_ || ·) (decide_eq_true ⟨Nat.pos_of_ne_zero h0, ?_⟩)).trans (Bool.or_true _))
  rw [index1, index1]
  intro he
  exact item_moves c ⟨t.val, h⟩ h0 (congrFun he 1)
theorem fetch1_last (c : Dev nD) (t : Fin grid0.N) (h : t.val = 16) : ((cfg0 (adm (F := F) c)).win 1).fetch t = false := by
  have e : itemBlk c (min t.val 15) = itemBlk c (min (t.val - 1) 15) := by rw [h]; rfl
  have hi : ¬ ∃ h : 0 < t.val, ((cfg0 (adm (F := F) c)).win 1).index t ≠ ((cfg0 (adm (F := F) c)).win 1).index ⟨t.val - 1, Nat.lt_of_le_of_lt (Nat.sub_le _ _) t.isLt⟩ := by
    rintro ⟨_, hn⟩
    rw [index1, index1] at hn
    exact hn (by rw [e])
  unfold Pipeline.Window.fetch
  exact (Bool.true_and _).trans ((congrArg (· || _) (decide_eq_false (by omega : ¬ t.val = 0))).trans ((Bool.false_or _).trans (decide_eq_false hi)))
theorem flush2 (c : Dev nD) (t : Fin grid0.N) : ((cfg0 (adm (F := F) c)).win 2).flush t = decide (t.val = 16) := by
  unfold Pipeline.Window.flush
  rw [decide_eq_false (p := ∃ h : t.val + 1 < grid0.N, _) (by rintro ⟨_, hn⟩; exact hn rfl)]
  show (true && (decide (t.val + 1 = 17) || false)) = _
  rw [Bool.true_and, Bool.or_false]
  exact decide_eq_decide.2 (by omega)

theorem before_fetch {cfg : Pipeline.Cfg sig Λ₀} {c : Dev nD} (dat : Pipeline.Dat τ (Elt F) Unit ℕ UU ℕ cfg c) (w : Fin cfg.W) (t : Fin cfg.N)
    (hf : (cfg.win w).fetch t = true) (d) : dat.before w t d = dat.fetched w t d := by
  unfold Pipeline.Dat.before; rw [if_pos hf]

/-- The rows are fetched whole. -/
theorem block0 (c : Dev nD) (t : Fin (cfg0 (adm (F := F) c)).N) : (dats V 0 c).blockOf (0 : Fin 3) t = rows V c := by
  funext y
  show V c main_arg0 (((cfg0 (adm (F := F) c)).win (0 : Fin 3)).rect t |>.emb y) = V c main_arg0 y
  congr 1
  funext a
  refine Fin.ext ((Pipeline.Window.rect_emb_val_off _ t y a).trans ?_)
  match a with
  | 0 => show 0 * 512 + (y 0).val = (y 0).val; omega
  | 1 => show 0 * 4096 + (y 1).val = (y 1).val; omega

/-- The weights are fetched block by block, in the order of the items. -/
theorem block1 (c : Dev nD) (t : Fin grid0.N) : (dats V 0 c).blockOf (1 : Fin 3) t = wblk (wts V) c (itemBlk c (min t.val 15)) := by
  funext y
  show V c main_arg1 (((cfg0 (adm (F := F) c)).win (1 : Fin 3)).rect t |>.emb y) = V c main_arg1 _
  congr 1
  funext a
  refine Fin.ext ((Pipeline.Window.rect_emb_val_off _ t y a).trans ?_)
  have hi := congrFun (index1 (F := F) c t) a
  have hk : itemBlk c (min t.val 15) < 16 := items_lt c t.val
  have hy : (y a).val < S4096x512.size a := (y a).isLt
  show (((cfg0 (adm (F := F) c)).win 1).index t a) * S4096x512.size a + (y a).val = _
  rw [hi]
  revert hy
  match a with
  | 0 => intro _; show 0 * 4096 + (y 0).val = (y 0).val; omega
  | 1 =>
    intro (hy : (y 1).val < 512)
    show itemBlk c (min t.val 15) * 512 + (y 1).val = (itemBlk c (min t.val 15) * 512 + (y 1).val) % 8192
    omega

theorem before0 (c : Dev nD) (t : Fin (cfg0 (adm (F := F) c)).N) (d) : (dats V 0 c).before (0 : Fin 3) t d = rows V c := by
  by_cases h : t.val = 0
  · exact (before_fetch (dats V 0 c) (0 : Fin 3) t (fetch0_first c t h) d).trans (block0 V c t)
  · exact ((dats V 0 c).before_of_pos (0 : Fin 3) t h (fetch0_later c t h) d).trans rfl
theorem before1 (c : Dev nD) (t : Fin (cfg0 (adm (F := F) c)).N) (h : t.val < 16) (d) : (dats V 0 c).before (1 : Fin 3) t d = wblk (wts V) c (itemBlk c t.val) :=
  (before_fetch (dats V 0 c) (1 : Fin 3) t (fetch1 c t h) d).trans ((block1 V c t).trans (by rw [Nat.min_eq_left (by omega)]))
theorem before1_last (c : Dev nD) (t : Fin (cfg0 (adm (F := F) c)).N) (h : t.val = 16) (d) : (dats V 0 c).before (1 : Fin 3) t d = wblk (wts V) c (itemBlk c 15) := by
  refine ((dats V 0 c).before_of_pos (1 : Fin 3) t (by omega) (fetch1_last c t h) d).trans ?_
  show wblk (wts V) c (itemBlk c (min (t.val - 1) 15)) = _
  rw [show min (t.val - 1) 15 = 15 by omega]

set_option maxHeartbeats 1000000 in
/-- One place of the grid. -/
theorem step (c : Dev nD) (t : Fin grid0.N) (s : (w : Fin 3) → Fin (spec0 w).nbuf) (fo : Vec F S4096x1024 .bf16) {Q : PUnit → sProp 𝕄} :
    iprop(hold V c t.val ∗ ow c (debt t.val) ∗ own c (spec0_0.stage (s 0)) (rows V c) ∗ own c (spec0_1.stage (s 1)) (wblk (wts V) c (itemBlk c (min t.val 15)))
      ∗ own c (spec0_2.stage (s 2)) fo)
    ⊢ iprop(((hold V c (t.val + 1) ∗ ow c (debt (t.val + 1)) ∗ own c (spec0_0.stage (s 0)) (rows V c)
        ∗ own c (spec0_1.stage (s 1)) (wblk (wts V) c (itemBlk c (min t.val 15)))
        ∗ own c (spec0_2.stage (s 2)) (if t.val = 16 then outBuf (rows V) (wts V) c else fo)) -∗ Q ⟨⟩)
      -∗ run c (bodyAt (F := F) t (spec0_0.stage (s 0)) (hstage0_0 ((s 0).cast nbuf0_0)) (spec0_1.stage (s 1)) (hstage0_1 ((s 1).cast nbuf0_1))
        (spec0_2.stage (s 2)) (hstage0_2 ((s 2).cast nbuf0_2))) Q) := by
  have hN : t.val < 17 := t.isLt
  unfold hold debt
  rw [if_neg (by omega : ¬ t.val = 17), if_neg (by omega : ¬ t.val + 1 = 0), if_neg (by omega : ¬ t.val + 1 = 0), if_neg (by omega : ¬ t.val = 17), Nat.add_sub_cancel]
  by_cases h0 : t.val = 0
  · rw [if_pos h0, if_pos h0, if_neg (by omega : ¬ t.val + 1 = 17), if_neg (by omega : ¬ t.val + 1 = 17), if_neg (by omega : ¬ t.val = 16), Nat.min_eq_left (by omega : t.val ≤ 15)]
    iintro ⟨⟨#Hr, Ht, Hb, Hg⟩, HO, H2, H3, H4⟩ Hk
    iapply (step_first (rows V) (wts V) c t h0 _ _ _ _ _ _) $$ [HO Ht Hb Hg H2 H3]
    · isplitr; · iexact Hr
      isplitl [HO]; · iexact HO
      isplitl [Ht]; · iexact Ht
      isplitl [Hb]; · iexact Hb
      isplitl [Hg]; · iexact Hg
      isplitl [H2] <;> iassumption
    iintro ⟨HO, Hm, Hs, H2, H3⟩
    iapply Hk
    isplitl [Hm Hs]
    · isplitr; · iexact Hr
      isplitl [Hm] <;> iassumption
    isplitl [HO]; · iexact HO
    isplitl [H2]; · iexact H2
    isplitl [H3] <;> iassumption
  by_cases hl : t.val = 16
  · rw [if_neg h0, if_neg h0, if_pos (by omega : t.val + 1 = 17), if_pos (by omega : t.val + 1 = 17), if_pos hl, hl]
    have es : s 2 = (0 : Fin 1) := Subsingleton.elim _ _
    rw [es]
    have eo := owns_whole (Val := Elt F) (Ix := Unit) (Name := ℕ) (U := UU) (Lvl := ℕ) (c : Thread nD τ) cc0_stg2_0 fullShare
    iintro ⟨⟨#Hr, Hm, Hs⟩, HO, H2, H3, H4⟩ Hk
    ihave H4 := (Entails.of_eq (eo fo)) $$ H4
    iapply (step_last (rows V) (wts V) c t hl _ _ _ _ (wblk (wts V) c (itemBlk c 15)) fo) $$ [HO Hm Hs H2 H3 H4]
    · isplitr; · iexact Hr
      isplitl [HO]; · iexact HO
      isplitl [Hm]; · iexact Hm
      isplitl [Hs]; · iexact Hs
      isplitl [H2]; · iexact H2
      isplitl [H3]; · iexact H3
      iexact H4
    iintro ⟨HO, Ht, Hb, Hq, H2, H3, H4⟩
    iapply Hk
    isplitl [Ht Hb Hq]
    · isplitl [Ht]; · iexact Ht
      isplitl [Hb] <;> iassumption
    isplitl [HO]; · iexact HO
    isplitl [H2]; · iexact H2
    isplitl [H3]; · iexact H3
    iapply (Entails.of_eq (eo (outBuf (rows V) (wts V) c)).symm)
    iexact H4
  rw [if_neg h0, if_neg h0, if_neg (by omega : ¬ t.val + 1 = 17), if_neg (by omega : ¬ t.val + 1 = 17), if_neg hl, Nat.min_eq_left (by omega : t.val ≤ 15)]
  have hs {Q : PUnit → sProp 𝕄} : iprop(recs (rows V) (wts V) ∗ ow c (21 - min (t.val - 1) 14) ∗ mid (rows V) (wts V) c (t.val - 1)
        ∗ own c (spec0_0.stage (s 0)) (rows V c) ∗ own c (spec0_1.stage (s 1)) (wblk (wts V) c (itemBlk c t.val)))
      ⊢ iprop(((ow c (21 - min t.val 14) ∗ mid (rows V) (wts V) c t.val ∗ own c (spec0_0.stage (s 0)) (rows V c) ∗ own c (spec0_1.stage (s 1)) (wblk (wts V) c (itemBlk c t.val))) -∗ Q ⟨⟩)
        -∗ run c (bodyAt (F := F) t (spec0_0.stage (s 0)) (hstage0_0 ((s 0).cast nbuf0_0)) (spec0_1.stage (s 1)) (hstage0_1 ((s 1).cast nbuf0_1))
        (spec0_2.stage (s 2)) (hstage0_2 ((s 2).cast nbuf0_2))) Q) := by
    by_cases ho : t.val % 2 = 1
    · exact step_odd (rows V) (wts V) c t ho _ _ _ _ _ _
    · exact step_even (rows V) (wts V) c t (by omega) (by omega) (by omega) _ _ _ _ _ _
  iintro ⟨⟨#Hr, Hm, Hs⟩, HO, H2, H3, H4⟩ Hk
  iapply hs $$ [HO Hm H2 H3]
  · isplitr; · iexact Hr
    isplitl [HO]; · iexact HO
    isplitl [Hm]; · iexact Hm
    isplitl [H2] <;> iassumption
  iintro ⟨HO, Hm, H2, H3⟩
  iapply Hk
  isplitl [Hm Hs]
  · isplitr; · iexact Hr
    isplitl [Hm] <;> iassumption
  isplitl [HO]; · iexact HO
  isplitl [H2]; · iexact H2
  isplitl [H3] <;> iassumption

end

end Cert.KernelIdeal.A2A

end
-- ==== Proof.Body.lean ====
/- The body between the windows. -/
module

public import proofs.«01_k».proof.Proof.Dats

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (V : (c : Dev nD) → (b : Ref sig .tc) → Buf (Elt F) ((c : Thread nD τ).loc b))

theorem idle2 (t : Fin grid0.N) : idle0 2 (grid0.coords t) = decide (t.val ≠ 16) := by
  show (!(k0_cond10 (grid0.coords t) == 1#1)) = _
  by_cases h : t.val = 16
  · rw [(cond10_iff t).2 h, decide_eq_false (not_not.2 h)]; rfl
  · rw [decide_eq_true h, beq_eq_false_iff_ne.2 (fun e => h ((cond10_iff t).1 e))]; rfl

theorem owe_open (c : Dev nD) (n : Fin (cfg0 (adm (F := F) c)).N.succ) : (dats V 0 c).owesAt () n ⊢ (ow c (debt n.val) : sProp 𝕄) := by
  unfold Pipeline.Dat.owesAt Pipeline.owesWithin ow
  iintro ⟨%W, %hW, H⟩
  iexists W
  iexact H
theorem owe_close (c : Dev nD) (n : Fin (cfg0 (adm (F := F) c)).N.succ) : (ow c (debt n.val) : sProp 𝕄) ⊢ (dats V 0 c).owesAt () n := by
  unfold Pipeline.Dat.owesAt Pipeline.owesWithin ow
  iintro ⟨%W, H⟩
  iexists W
  isplitr; · ipureintro; exact fun _ _ => Or.inl trivial
  iexact H

set_option maxHeartbeats 1000000 in
/-- The body at every place, between what the windows bring and what they take away. -/
theorem obligation (c : Dev nD) : Pipeline.BodyObligation (dats V 0 c) (defs₀ (F := F)) 𝒱₀ () Set.univ := by
  intro t
  have hN : t.val < 17 := t.isLt
  rw [bigSep_W0, bigSep_W0]
  have e0 := before0 V c t
  have e1 : ∀ d, (dats V 0 c).before (1 : Fin 3) t d = wblk (wts V) c (itemBlk c (min t.val 15)) := fun d => by
    by_cases h : t.val = 16
    · exact (before1_last V c t h d).trans (by rw [h]; rfl)
    · exact (before1 V c t (by omega) d).trans (by rw [Nat.min_eq_left (by omega)])
  have hf := flush2 (F := F) c t
  have hi := idle2 t
  have hs := fun (fo : Vec F S4096x1024 .bf16) (Q : PUnit → sProp 𝕄) => step V c t ((cfg0 (adm (F := F) c)).slots t) fo (Q := Q)
  show iprop(hold V c t.val ∗ (dats V 0 c).owesAt () t.castSucc
      ∗ (∃ d, own c (spec0_0.stage ((cfg0 (adm (F := F) c)).slots t 0)) ((dats V 0 c).before (0 : Fin 3) t d))
      ∗ (∃ d, own c (spec0_1.stage ((cfg0 (adm (F := F) c)).slots t 1)) ((dats V 0 c).before (1 : Fin 3) t d))
      ∗ (∃ d, own c (spec0_2.stage ((cfg0 (adm (F := F) c)).slots t 2)) ((dats V 0 c).before (2 : Fin 3) t d)))
    ⊢ run c (bodyAt (F := F) t (spec0_0.stage ((cfg0 (adm (F := F) c)).slots t 0)) (hstage0_0 (((cfg0 (adm (F := F) c)).slots t 0).cast nbuf0_0))
        (spec0_1.stage ((cfg0 (adm (F := F) c)).slots t 1)) (hstage0_1 (((cfg0 (adm (F := F) c)).slots t 1).cast nbuf0_1))
        (spec0_2.stage ((cfg0 (adm (F := F) c)).slots t 2)) (hstage0_2 (((cfg0 (adm (F := F) c)).slots t 2).cast nbuf0_2)))
      fun _ => iprop(hold V c (t.val + 1) ∗ (dats V 0 c).owesAt () t.succ
        ∗ own c (spec0_0.stage ((cfg0 (adm (F := F) c)).slots t 0)) (rows V c)
        ∗ own c (spec0_1.stage ((cfg0 (adm (F := F) c)).slots t 1)) (wblk (wts V) c (itemBlk c (min t.val 15)))
        ∗ (match idle0 2 (grid0.coords t) with
          | true =>
            match ((cfg0 (adm (F := F) c)).win 2).flush t with
            | false => iprop(∃ d, own c (spec0_2.stage ((cfg0 (adm (F := F) c)).slots t 2)) ((dats V 0 c).before (2 : Fin 3) t d))
            | true => own c (spec0_2.stage ((cfg0 (adm (F := F) c)).slots t 2)) (outBuf (rows V) (wts V) c)
          | false => own c (spec0_2.stage ((cfg0 (adm (F := F) c)).slots t 2)) (outBuf (rows V) (wts V) c)))
  rw [hi, hf]
  iintro ⟨Hh, HO, ⟨%d0, H0⟩, ⟨%d1, H1⟩, ⟨%d2, H2⟩⟩
  ihave HO := (owe_open V c t.castSucc) $$ HO
  ihave H0 := (Entails.of_eq (congrArg (fun f => own c (spec0_0.stage ((cfg0 (adm (F := F) c)).slots t 0)) f) (e0 d0))) $$ H0
  ihave H1 := (Entails.of_eq (congrArg (fun f => own c (spec0_1.stage ((cfg0 (adm (F := F) c)).slots t 1)) f) (e1 d1))) $$ H1
  iapply (hs ((dats V 0 c).before (2 : Fin 3) t d2) _) $$ [Hh HO H0 H1 H2]
  · isplitl [Hh]; · iexact Hh
    isplitl [HO]; · iexact HO
    isplitl [H0]; · iexact H0
    isplitl [H1] <;> iassumption
  iintro ⟨Hh, HO, H0, H1, H2⟩
  ihave HO := (show (ow c (debt (t.val + 1)) : sProp 𝕄) ⊢ (dats V 0 c).owesAt () t.succ from owe_close V c t.succ) $$ HO
  isplitl [Hh]; · iexact Hh
  isplitl [HO]; · iexact HO
  isplitl [H0]; · iexact H0
  isplitl [H1]; · iexact H1
  by_cases h : t.val = 16
  · ihave H2 := (Entails.of_eq (congrArg (fun f => own c (spec0_2.stage ((cfg0 (adm (F := F) c)).slots t 2)) f) (if_pos h))) $$ H2
    iapply (Entails.of_eq (by rw [decide_eq_false (not_not.2 h)])) $$ H2
  · ihave H2 := (Entails.of_eq (congrArg (fun f => own c (spec0_2.stage ((cfg0 (adm (F := F) c)).slots t 2)) f) (if_neg h))) $$ H2
    iapply (show iprop(∃ d, own c (spec0_2.stage ((cfg0 (adm (F := F) c)).slots t 2)) ((dats V 0 c).before (2 : Fin 3) t d)) ⊢ _ from Entails.of_eq (by rw [decide_eq_true h, decide_eq_false h]))
    iexists d2
    iexact H2

theorem lastT_lt : 16 < grid0.N := by decide
abbrev lastT : Fin grid0.N := ⟨16, lastT_lt⟩

theorem mem_of_emb {κ : Kind} {sp : Space} {s : Shape} {e : EltTy} (v : View sig κ sp s e) (y : s.Idx) (i : v.ty.Idx) (h : v.emb y = i) : i ∈ v.set := h ▸ v.emb_mem_set y

theorem place2 (c : Dev nD) (t : Fin grid0.N) (y : S4096x1024.Idx) : (((cfg0 (adm (F := F) c)).win 2).rect t).emb y = y := by
  funext (a : Fin 2)
  refine Fin.ext ((Pipeline.Window.rect_emb_val_off ((cfg0 (adm (F := F) c)).win 2) t y a).trans ?_)
  match a with
  | 0 => show 0 * 4096 + (y 0).val = (y 0).val; omega
  | 1 => show 0 * 1024 + (y 1).val = (y 1).val; omega

/-- What the result holds in the end. -/
theorem arr2_final (c : Dev nD) : (dats V 0 c).arrAt (2 : Fin 3) (cfg0 (adm (F := F) c)).N = outBuf (rows V) (wts V) c := by
  refine (dats V 0 c).arrAt_eq_of_cover (2 : Fin 3) (outBuf (rows V) (wts V) c) (fun t _ => ?_) fun i => ⟨lastT, (flush2 c _).trans rfl, ?_⟩
  · funext y
    exact (congrArg (outBuf (rows V) (wts V) c) (place2 (F := F) c t y)).symm
  · exact mem_of_emb (((cfg0 (adm (F := F) c)).win 2).blk lastT).view i i (place2 (F := F) c lastT i)

end

end Cert.KernelIdeal.A2A

end
-- ==== Proof.Open.lean ====
/- The cells of one device, opened before its first place. -/
module

public import proofs.«01_k».proof.Proof.State

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → Vec F S512x4096 .bf16) (Wt : Dev nD → Vec F S4096x8192 .bf16) (c : Dev nD)

theorem erase_sub (Ψ : Dev nD → sProp 𝕄) : bigSep (Finset.univ.erase c) Ψ = bigSep (Finset.Ico 1 8) fun t => Ψ (sub c t) := by
  have h1 : (Finset.univ : Finset (Dev nD)).erase c = (Finset.Ico 1 8).image (sub c) := by revert c; decide
  have h3 : Set.InjOn (sub c) (Finset.Ico 1 8) := fun a ha b hb h => by
    have ha := Finset.mem_Ico.1 (Finset.mem_coe.1 ha); have hb := Finset.mem_Ico.1 (Finset.mem_coe.1 hb)
    have := congrArg Fin.val h; have hc : c.val < 8 := c.isLt
    rw [val_sub, val_sub] at this; omega
  rw [h1, bigSep_image_of_injOn h3]

/-- What a device is to receive, as credit. -/
def credits : sProp 𝕄 :=
  iprop(cred (tallyAt (barCell c) () 7)
    ∗ bigSep (Finset.Ico 1 8) (fun t => iprop(cred (tallyAt (dcell c (18 + 2 * (sub c t).val)) () NY) ∗ cred (tallyAt (dcell c (18 + (2 * (sub c t).val + 1))) () NY)))
    ∗ bigSep (Finset.Ico 1 8) (fun t => cred (tallyAt (dcell c (42 + (sh c t).val)) () NA)))

/-- The duties a device pays. -/
def duties : sProp 𝕄 :=
  iprop(bigSep (Finset.Ico 1 8) (fun t => dutyTok ER (barCell (sh c t)) 0 c)
    ∗ bigSep (Finset.range 14) (fun j => iprop(dutyTok ER (dcell c (4 + j)) 0 0 ∗ dutyTok ER (dcell (sh c (j / 2 + 1)) (18 + (2 * c.val + j % 2))) 0 0))
    ∗ bigSep (Finset.Ico 1 8) (fun t => iprop(dutyTok ER (dcell c (34 + t)) 0 0 ∗ dutyTok ER (dcell (sh c t) (42 + c.val)) 0 0)))

/-- A device's own cells of copies, still shut and at zero. -/
abbrev shut (q : ℕ) : sProp 𝕄 := iprop(openTok ER (dcell c q) ∗ nil (F := F) c q)
/-- A cell open, at its first round. -/
abbrev ajar (q : ℕ) : sProp 𝕄 := iprop(wat (F := F) c q ∗ reached ER (dcell c q) 0)

theorem open_one {q : ℕ} (hq : 4 ≤ q) (hq' : q < 50) : iprop(recs X Wt ∗ shut (F := F) c q) ⊢ |={Set.univ}=> ajar (F := F) c q := by
  unfold ajar shut wat nil
  iintro ⟨#Hr, Ho, Hn⟩
  ihave Hi := (recs_dma X Wt c hq hq') $$ Hr
  icases Hi with ⟨%κ, #Hi⟩
  iapply (Rounds.cell_open ER (Rd X Wt) (g := dcell c q) (Set.mem_univ κ))
  isplitr; · iexact Hi
  isplitl [Ho] <;> iassumption

theorem open_all {I : Type} [DecidableEq I] (s : Finset I) (q : I → ℕ) (hq : ∀ i ∈ s, 4 ≤ q i ∧ q i < 50) :
    iprop(recs X Wt ∗ bigSep s fun i => shut (F := F) c (q i)) ⊢ |={Set.univ}=> bigSep s fun i => ajar (F := F) c (q i) :=
  (bigSep_with_persistent (R := recs X Wt) fun i hi => open_one X Wt c (hq i hi).1 (hq i hi).2).trans (bigSep_fupd s _)

/-- Two families opened side by side, the positions and what is known apart. -/
theorem ajar_zip {I : Type} [DecidableEq I] (s : Finset I) (q : I → ℕ) :
    bigSep s (fun i => ajar (F := F) c (q i)) = iprop(bigSep s (fun i => wat (F := F) c (q i)) ∗ bigSep s fun i => reached ER (dcell c (q i)) 0) := zip s _ _

abbrev known (q : ℕ) : sProp 𝕄 := reached ER (dcell c q) 0

/-- The cells of a device by what they carry, its own slots' apart. -/
theorem cells_split (Ψ : ℕ → sProp 𝕄) : bigSep (Finset.Ico 4 50) Ψ
    = iprop(bigSep (Finset.range 14) (fun j => Ψ (4 + j))
      ∗ ((Ψ (18 + 2 * c.val) ∗ Ψ (18 + (2 * c.val + 1))) ∗ bigSep (Finset.Ico 1 8) fun t => iprop(Ψ (18 + 2 * (sub c t).val) ∗ Ψ (18 + (2 * (sub c t).val + 1))))
      ∗ (Ψ (34 + 0) ∗ bigSep (Finset.Ico 1 8) fun t => Ψ (34 + t))
      ∗ (Ψ (42 + c.val) ∗ bigSep (Finset.Ico 1 8) fun t => Ψ (42 + (sh c t).val))) := by
  rw [own_cells, pairs_sub c (fun k => Ψ (18 + k)), eight_first (fun k => Ψ (34 + k)), eight_sh c (fun k => Ψ (42 + k))]

/-- What is known of the arriving cells, in the order of the knocks. -/
theorem known_turn : bigSep (Finset.Ico 1 8) (fun t => iprop(known (F := F) c (18 + 2 * (sub c t).val) ∗ known (F := F) c (18 + (2 * (sub c t).val + 1))))
    = bigSep (Finset.Ico 1 8) (fun t => iprop(known (F := F) c (18 + 2 * (sh c t).val) ∗ known (F := F) c (18 + (2 * (sh c t).val + 1)))) := by
  rw [← erase_sub c (fun d => iprop(known (F := F) c (18 + 2 * d.val) ∗ known (F := F) c (18 + (2 * d.val + 1)))),
    ← erase_sh c (fun d => iprop(known (F := F) c (18 + 2 * d.val) ∗ known (F := F) c (18 + (2 * d.val + 1))))]

theorem knocks_of : iprop(bigSep (Finset.Ico 1 8) (fun t => dutyTok ER (barCell (sh c t)) 0 c)
      ∗ bigSep (Finset.Ico 1 8) (fun t => iprop(known (F := F) c (18 + 2 * (sub c t).val) ∗ known (F := F) c (18 + (2 * (sub c t).val + 1))))
      ∗ bigSep (Finset.Ico 1 8) (fun t => known (F := F) c (42 + (sh c t).val)))
    ⊢ (bigSep (Finset.Ico 1 8) (knock (F := F) c) : sProp 𝕄) := by
  rw [known_turn, ← zip, ← zip]
  refine each fun t _ => ?_
  unfold knock
  iintro ⟨A, ⟨B, C⟩, D⟩
  isplitl [A]; · iexact A
  isplitl [B]; · iexact B
  isplitl [C] <;> iassumption

theorem items_of : iprop(bigSep (Finset.range 14) (fun j => iprop(dutyTok ER (dcell c (4 + j)) 0 0 ∗ dutyTok ER (dcell (sh c (j / 2 + 1)) (18 + (2 * c.val + j % 2))) 0 0))
      ∗ bigSep (Finset.range 14) (fun j => known (F := F) c (4 + j)))
    ⊢ (bigSep (Finset.range 14) (itemTok (F := F) c) : sProp 𝕄) := by
  rw [← zip]
  refine each fun t _ => ?_
  unfold itemTok
  iintro ⟨⟨A, B⟩, C⟩
  isplitl [A]; · iexact A
  isplitl [C] <;> iassumption

theorem amaxs_of : iprop(bigSep (Finset.Ico 1 8) (fun t => iprop(dutyTok ER (dcell c (34 + t)) 0 0 ∗ dutyTok ER (dcell (sh c t) (42 + c.val)) 0 0))
      ∗ bigSep (Finset.Ico 1 8) (fun t => known (F := F) c (34 + t)))
    ⊢ (bigSep (Finset.Ico 1 8) (amaxTok (F := F) c) : sProp 𝕄) := by
  rw [← zip]
  refine each fun t _ => ?_
  unfold amaxTok
  iintro ⟨⟨A, B⟩, C⟩
  isplitl [A]; · iexact A
  isplitl [C] <;> iassumption

theorem gots_of : iprop(bigSep (Finset.Ico 1 8) (fun t => iprop(cred (tallyAt (dcell c (18 + 2 * (sub c t).val)) () NY) ∗ cred (tallyAt (dcell c (18 + (2 * (sub c t).val + 1))) () NY)))
      ∗ bigSep (Finset.Ico 1 8) (fun t => iprop(wat (F := F) c (18 + 2 * (sub c t).val) ∗ wat (F := F) c (18 + (2 * (sub c t).val + 1)))))
    ⊢ (bigSep (Finset.Ico 1 8) (fun t => iprop(got (F := F) c (18 + 2 * (sub c t).val) ∗ got (F := F) c (18 + (2 * (sub c t).val + 1)))) : sProp 𝕄) := by
  rw [← zip]
  refine each fun t _ => ?_
  have hs : (sub c t).val < 8 := (sub c t).isLt
  unfold got wat
  rw [show damt (18 + 2 * (sub c t).val) = NY from if_pos (by omega), show damt (18 + (2 * (sub c t).val + 1)) = NY from if_pos (by omega)]
  iintro ⟨⟨A, B⟩, C, D⟩
  isplitl [A C]
  · isplitl [A] <;> iassumption
  isplitl [B] <;> iassumption

theorem maxs_of : iprop(bigSep (Finset.Ico 1 8) (fun t => cred (tallyAt (dcell c (42 + (sh c t).val)) () NA)) ∗ bigSep (Finset.Ico 1 8) (fun t => wat (F := F) c (42 + (sh c t).val)))
    ⊢ (bigSep (Finset.Ico 1 8) (fun t => got (F := F) c (42 + (sh c t).val)) : sProp 𝕄) := by
  rw [← zip]
  refine each fun t _ => ?_
  unfold got wat
  rw [show damt (42 + (sh c t).val) = NA from if_neg (by omega)]

/-- Everything a device begins with, from what the launch deals it and its own cells at zero. -/
theorem hopen : iprop(recs X Wt ∗ duties (F := F) c ∗ credits (F := F) c ∗ atPos ER (barCell c) 0 ∅ 0
      ∗ bigSep (Finset.Ico 4 50) (fun q => openTok ER (dcell c q)) ∗ bigSep (Finset.Ico 4 50) (nil (F := F) c))
    ⊢ |={Set.univ}=> begin_ (F := F) c := by
  have hc : c.val < 8 := c.isLt
  unfold duties credits begin_ waits
  rw [cells_split c (fun q => openTok ER (dcell c q)), cells_split c (nil (F := F) c)]
  iintro ⟨#Hr, ⟨Db, Di, Da⟩, ⟨Cb, Cr, Ca⟩, Hb, ⟨O1, ⟨-, O2⟩, ⟨-, O3⟩, -, O4⟩, N1, ⟨N2o, N2⟩, ⟨N3o, N3⟩, N4o, N4⟩
  ihave Z1 := (Entails.of_eq (zip (Finset.range 14) (fun j => openTok ER (dcell c (4 + j))) (fun j => nil (F := F) c (4 + j))).symm) $$ [O1 N1]
  · isplitl [O1] <;> iassumption
  ihave Z2 := (show iprop(bigSep (Finset.Ico 1 8) (fun t => iprop(openTok ER (dcell c (18 + 2 * (sub c t).val)) ∗ openTok ER (dcell c (18 + (2 * (sub c t).val + 1)))))
      ∗ bigSep (Finset.Ico 1 8) (fun t => iprop(nil (F := F) c (18 + 2 * (sub c t).val) ∗ nil (F := F) c (18 + (2 * (sub c t).val + 1)))))
      ⊢ iprop(bigSep (Finset.Ico 1 8) (fun t => shut (F := F) c (18 + 2 * (sub c t).val)) ∗ bigSep (Finset.Ico 1 8) (fun t => shut (F := F) c (18 + (2 * (sub c t).val + 1)))) from by
        rw [zip, zip, zip, zip]; iintro ⟨⟨A, B⟩, C, D⟩
        isplitl [A C]
        · isplitl [A] <;> iassumption
        isplitl [B] <;> iassumption) $$ [O2 N2]
  · isplitl [O2] <;> iassumption
  icases Z2 with ⟨Z2, Z2'⟩
  ihave Z3 := (Entails.of_eq (zip (Finset.Ico 1 8) (fun t => openTok ER (dcell c (34 + t))) (fun t => nil (F := F) c (34 + t))).symm) $$ [O3 N3]
  · isplitl [O3] <;> iassumption
  ihave Z4 := (Entails.of_eq (zip (Finset.Ico 1 8) (fun t => openTok ER (dcell c (42 + (sh c t).val))) (fun t => nil (F := F) c (42 + (sh c t).val))).symm) $$ [O4 N4]
  · isplitl [O4] <;> iassumption
  imod (open_all X Wt c (Finset.range 14) (fun j => 4 + j) (fun j hj => by have := Finset.mem_range.1 hj; omega)) $$ [Z1] with Z1
  · isplitr; · iexact Hr
    iexact Z1
  imod (open_all X Wt c (Finset.Ico 1 8) (fun t => 18 + 2 * (sub c t).val) (fun t _ => by have : (sub c t).val < 8 := (sub c t).isLt; omega)) $$ [Z2] with Z2
  · isplitr; · iexact Hr
    iexact Z2
  imod (open_all X Wt c (Finset.Ico 1 8) (fun t => 18 + (2 * (sub c t).val + 1)) (fun t _ => by have : (sub c t).val < 8 := (sub c t).isLt; omega)) $$ [Z2'] with Z2'
  · isplitr; · iexact Hr
    iexact Z2'
  imod (open_all X Wt c (Finset.Ico 1 8) (fun t => 34 + t) (fun t ht => by have := Finset.mem_Ico.1 ht; omega)) $$ [Z3] with Z3
  · isplitr; · iexact Hr
    iexact Z3
  imod (open_all X Wt c (Finset.Ico 1 8) (fun t => 42 + (sh c t).val) (fun t _ => by have : (sh c t).val < 8 := (sh c t).isLt; omega)) $$ [Z4] with Z4
  · isplitr; · iexact Hr
    iexact Z4
  imodintro
  ihave Z1 := (Entails.of_eq (ajar_zip c (Finset.range 14) (fun j => 4 + j))) $$ Z1
  ihave Z2 := (Entails.of_eq (ajar_zip c (Finset.Ico 1 8) (fun t => 18 + 2 * (sub c t).val))) $$ Z2
  ihave Z2' := (Entails.of_eq (ajar_zip c (Finset.Ico 1 8) (fun t => 18 + (2 * (sub c t).val + 1)))) $$ Z2'
  ihave Z3 := (Entails.of_eq (ajar_zip c (Finset.Ico 1 8) (fun t => 34 + t))) $$ Z3
  ihave Z4 := (Entails.of_eq (ajar_zip c (Finset.Ico 1 8) (fun t => 42 + (sh c t).val))) $$ Z4
  icases Z1 with ⟨W1, R1⟩
  icases Z2 with ⟨W2, R2⟩
  icases Z2' with ⟨W2', R2'⟩
  icases Z3 with ⟨W3, R3⟩
  icases Z4 with ⟨W4, R4⟩
  isplitl [Cb]; · iexact Cb
  isplitl [Hb]; · iexact Hb
  isplitl [Db R2 R2' R4]
  · iapply (knocks_of c)
    isplitl [Db]; · iexact Db
    isplitl [R2 R2']
    · iapply (Entails.of_eq (zip (Finset.Ico 1 8) (fun t => known (F := F) c (18 + 2 * (sub c t).val)) (fun t => known (F := F) c (18 + (2 * (sub c t).val + 1)))).symm)
      isplitl [R2] <;> iassumption
    iexact R4
  isplitl [Di R1]
  · iapply (items_of c)
    isplitl [Di] <;> iassumption
  isplitl [Da R3]
  · iapply (amaxs_of c)
    isplitl [Da] <;> iassumption
  isplitl [W1]; · iexact W1
  isplitl [Cr W2 W2']
  · iapply (gots_of c)
    isplitl [Cr]; · iexact Cr
    iapply (Entails.of_eq (zip (Finset.Ico 1 8) (fun t => wat (F := F) c (18 + 2 * (sub c t).val)) (fun t => wat (F := F) c (18 + (2 * (sub c t).val + 1)))).symm)
    isplitl [W2] <;> iassumption
  isplitl [W3]; · iexact W3
  isplitl [Ca W4]
  · iapply (maxs_of c)
    isplitl [Ca] <;> iassumption
  isplitl [N2o]; · iexact N2o
  isplitl [N3o]; · iexact N3o
  iexact N4o

end

end Cert.KernelIdeal.A2A

end
-- ==== Proof.Deal.lean ====
/- What the launch deals each device: the tokens of its duties and the credit of what it is to receive. -/
module

public import proofs.«01_k».proof.Proof.Open

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A cell by number: nought the barrier's, else a transfer's. -/
def gs (p : Dev nD × ℕ) : GSem nD τ sig := if p.2 = 0 then barCell p.1 else dcell p.1 p.2

theorem gs_inj {p p' : Dev nD × ℕ} (h : p.2 < 50) (h' : p'.2 < 50) (e : gs p = gs p') : p = p' := by
  obtain ⟨c, q⟩ := p; obtain ⟨c', q'⟩ := p'
  unfold gs at e
  have hc : c = c' := by
    have := congrArg (fun g : GSem nD τ sig => g.1.1) e
    revert this; dsimp only; split <;> split <;> exact id
  subst hc
  have h2 := congrArg Prod.snd e
  refine Prod.ext rfl ?_
  dsimp only at *
  split at h2 <;> split at h2
  · omega
  · cases h2
  · cases h2
  · exact dq_inj h h' (SemLoc.dma.inj h2)

theorem dcell_inj {c : Dev nD} {q q' : ℕ} (h : q < 50) (h' : q' < 50) (e : dcell c q = dcell c q') : q = q' :=
  dq_inj h h' (SemLoc.dma.inj (congrArg Prod.snd e))

/-! ## The tokens -/

/-- The duties of device `c`, numbered: its knocks, its items leaving and arriving, its maxima leaving and arriving. -/
def tk (c : Dev nD) (k : ℕ) : (Dev nD × ℕ) × Fin 8 :=
  if k < 7 then ((sh c (1 + k), 0), c)
  else if k < 21 then ((c, 4 + (k - 7)), 0)
  else if k < 35 then ((sh c ((k - 21) / 2 + 1), 18 + (2 * c.val + (k - 21) % 2)), 0)
  else if k < 42 then ((c, 34 + (1 + (k - 35))), 0)
  else ((sh c (1 + (k - 42)), 42 + c.val), 0)

/-- The number of a duty, from the duty. -/
def tkNo (x : (Dev nD × ℕ) × Fin 8) : ℕ × ℕ :=
  if x.1.2 = 0 then (x.2.val, (x.1.1.val + 8 - x.2.val) % 8 - 1)
  else if x.1.2 < 18 then (x.1.1.val, x.1.2 - 4 + 7)
  else if x.1.2 < 34 then ((x.1.2 - 18) / 2, 21 + 2 * ((x.1.1.val + 8 - (x.1.2 - 18) / 2) % 8 - 1) + x.1.2 % 2)
  else if x.1.2 < 42 then (x.1.1.val, x.1.2 - 35 + 35)
  else (x.1.2 - 42, 42 + ((x.1.1.val + 8 - (x.1.2 - 42)) % 8 - 1))

theorem tkNo_tk : ∀ (c : Dev nD) (k : Fin 49), tkNo (tk c k.val) = (c.val, k.val) := by decide +kernel
theorem tk_lt : ∀ (c : Dev nD) (k : Fin 49), (tk c k.val).1.2 < 50 := by decide +kernel

def tok (ck : Dev nD × Fin 49) : GSem nD τ sig × ℕ × Fin 8 := (gs (tk ck.1 ck.2.val).1, 0, (tk ck.1 ck.2.val).2)
theorem tok_inj : Function.Injective tok := by
  rintro ⟨c, k⟩ ⟨c', k'⟩ h
  have h1 : (tk c k.val).1 = (tk c' k'.val).1 := gs_inj (tk_lt c k) (tk_lt c' k') (congrArg Prod.fst h)
  have h2 : (tk c k.val).2 = (tk c' k'.val).2 := congrArg (fun x : GSem nD τ sig × ℕ × Fin 8 => x.2.2) h
  have h3 : tkNo (tk c k.val) = tkNo (tk c' k'.val) := congrArg tkNo (Prod.ext h1 h2)
  rw [tkNo_tk, tkNo_tk] at h3
  exact Prod.ext (Fin.ext (congrArg Prod.fst h3)) (Fin.ext (congrArg Prod.snd h3))

def toks : Finset (GSem nD τ sig × ℕ × Fin 8) := Finset.univ.map ⟨tok, tok_inj⟩

/-- The token of a numbered duty. -/
def tokAt (c : Dev nD) (k : ℕ) : sProp 𝕄 := dutyTok ER (gs (tk c k).1) 0 (tk c k).2

theorem toks_eq : bigSep toks (fun x => (dutyTok ER x.1 x.2.1 x.2.2 : sProp 𝕄)) = bigSep Finset.univ fun c : Dev nD => bigSep (Finset.range 49) (tokAt (F := F) c) := by
  unfold toks; rw [bigSep_map, bigSep_univ_prod]
  exact bigSep_congr fun c _ => by rw [range_fin]; rfl

theorem Ico_of {a b n : ℕ} (h : b = a + n) (Ψ : ℕ → sProp 𝕄) : bigSep (Finset.Ico a b) Ψ = bigSep (Finset.range n) fun k => Ψ (a + k) := by
  rw [h, Ico_range]

theorem tokAt_dma {c d : Dev nD} {k q : ℕ} {i : Fin 8} (h : tk c k = ((d, q), i)) (hq : 0 < q) : tokAt (F := F) c k = dutyTok ER (dcell d q) 0 i := by
  unfold tokAt gs; rw [h]; dsimp only; rw [if_neg (by omega)]

/-- The tokens of a device by what they are for. -/
theorem toks_duties (c : Dev nD) : bigSep (Finset.range 49) (tokAt (F := F) c) ⊢ duties (F := F) c := by
  unfold duties
  rw [show Finset.range 49 = Finset.Ico 0 49 from Finset.range_eq_Ico 49, Ico_join (show 0 ≤ 7 by omega) (show 7 ≤ 49 by omega), Ico_join (show 7 ≤ 21 by omega) (show 21 ≤ 49 by omega),
    Ico_join (show 21 ≤ 35 by omega) (show 35 ≤ 49 by omega), Ico_join (show 35 ≤ 42 by omega) (show 42 ≤ 49 by omega),
    Ico_of (show 7 = 0 + 7 from rfl), Ico_of (show 21 = 7 + 14 from rfl), Ico_of (show 35 = 21 + 14 from rfl), Ico_of (show 42 = 35 + 7 from rfl),
    Ico_of (show 49 = 42 + 7 from rfl), Ico_of (show 8 = 1 + 7 from rfl), Ico_of (show 8 = 1 + 7 from rfl)]
  iintro ⟨A, B, C, D, E⟩
  isplitl [A]
  · iapply (each fun k hk => Entails.of_eq ?_) $$ A
    have := Finset.mem_range.1 hk
    unfold tokAt
    rw [show tk c (0 + k) = ((sh c (1 + k), 0), c) from by unfold tk; rw [if_pos (by omega), Nat.zero_add]]; rfl
  isplitl [B C]
  · iapply (Entails.of_eq (zip (Finset.range 14) (fun j => dutyTok ER (dcell c (4 + j)) 0 0) (fun j => dutyTok ER (dcell (sh c (j / 2 + 1)) (18 + (2 * c.val + j % 2))) 0 0)).symm)
    isplitl [B]
    · iapply (each fun k hk => Entails.of_eq ?_) $$ B
      have := Finset.mem_range.1 hk
      exact tokAt_dma (by unfold tk; rw [if_neg (by omega), if_pos (by omega), Nat.add_sub_cancel_left]) (by omega)
    · iapply (each fun k hk => Entails.of_eq ?_) $$ C
      have := Finset.mem_range.1 hk
      exact tokAt_dma (by unfold tk; rw [if_neg (by omega), if_neg (by omega), if_pos (by omega), Nat.add_sub_cancel_left]) (by omega)
  iapply (Entails.of_eq (zip (Finset.range 7) (fun t => dutyTok ER (dcell c (34 + (1 + t))) 0 0) (fun t => dutyTok ER (dcell (sh c (1 + t)) (42 + c.val)) 0 0)).symm)
  isplitl [D]
  · iapply (each fun k hk => Entails.of_eq ?_) $$ D
    have := Finset.mem_range.1 hk
    exact tokAt_dma (by unfold tk; rw [if_neg (by omega), if_neg (by omega), if_neg (by omega), if_pos (by omega), Nat.add_sub_cancel_left]) (by omega)
  · iapply (each fun k hk => Entails.of_eq ?_) $$ E
    have := Finset.mem_range.1 hk
    exact tokAt_dma (by unfold tk; rw [if_neg (by omega), if_neg (by omega), if_neg (by omega), if_neg (by omega), Nat.add_sub_cancel_left]) (by omega)

/-! ## The credits -/

theorem rem_sum (d : Dev nD) (n : ℕ) (g : GSem nD τ sig) : rem d n g () = ∑ k ∈ Finset.range n, if g = (due d k).1 then (due d k).2 else 0 := by
  induction n with
  | zero => rfl
  | succ n ih =>
    rw [Finset.sum_range_succ, ← ih]
    show (rem d n + tallyAt (due d n).1 () (due d n).2) g () = _
    rw [Pi.add_apply, Finsupp.add_apply, tallyAt_apply]
    simp only [and_true]

def dueN (c : Dev nD) (k : ℕ) : Dev nD × ℕ :=
  if k < 7 then (sh c (7 - k), 42 + c.val)
  else if k < 21 then (sh c ((20 - k) / 2 + 1), 18 + (2 * c.val + (20 - k) % 2))
  else (sh c (28 - k), 0)
def dueA (k : ℕ) : ℕ := if k < 7 then NA else if k < 21 then NY else 1

theorem due_eq (c : Dev nD) (k : ℕ) : due c k = (gs (dueN c k), dueA k) := by
  unfold due dueN dueA gs
  split
  · dsimp only; rw [if_neg (by omega)]
  split
  · dsimp only; rw [if_neg (by omega)]
  · rfl
theorem dueN_lt : ∀ (c : Dev nD) (k : Fin 28), (dueN c k.val).2 < 50 := by decide +kernel

/-- How often a cell is owed to. -/
def times (p : Dev nD × ℕ) : ℕ := ∑ d : Dev nD, ∑ k ∈ Finset.range 28, if p = dueN d k then 1 else 0

theorem owed_times (p : Dev nD × ℕ) (hp : p.2 < 50) (n : ℕ) (h : ∀ (d : Dev nD) (k : Fin 28), p = dueN d k.val → dueA k.val = n) :
    (∑ d : Dev nD, rem d 28 (gs p) ()) = times p * n := by
  unfold times
  rw [Finset.sum_mul]
  refine Finset.sum_congr rfl fun d _ => ?_
  rw [rem_sum, Finset.sum_mul]
  refine Finset.sum_congr rfl fun k hk => ?_
  have hk := Finset.mem_range.1 hk
  rw [due_eq]
  dsimp only
  by_cases e : p = dueN d k
  · rw [if_pos (congrArg gs e), if_pos e, h d ⟨k, hk⟩ e, Nat.one_mul]
  · rw [if_neg (fun e' => e (gs_inj hp (dueN_lt d ⟨k, hk⟩) e')), if_neg e, Nat.zero_mul]

theorem times_bar : ∀ c : Dev nD, times (c, 0) = 7 := by decide +kernel
theorem times_recv : ∀ (c : Dev nD) (t : Fin 7) (h : Fin 2), times (c, 18 + (2 * (sub c (1 + t.val)).val + h.val)) = 1 := by decide +kernel
theorem times_amax : ∀ (c : Dev nD) (t : Fin 7), times (c, 42 + (sh c (1 + t.val)).val) = 1 := by decide +kernel

theorem launch_at (c : Dev nD) (sm : SemLoc sig) (n : ℕ) (h : (∑ d : Dev nD, rem d 28 ((c : Thread nD τ), sm) ()) = n) :
    tallyOn ((c : Thread nD τ), sm) (launchCredit (Pipeline.owing fun d => rem d 28) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem owed_dma (c : Dev nD) (q : ℕ) (h : 0 < q) (h' : q < 50) (n : ℕ) (ht : times (c, q) = 1) (hn : ∀ (d : Dev nD) (k : Fin 28), (c, q) = dueN d k.val → dueA k.val = n) :
    (∑ d : Dev nD, rem d 28 (dcell c q) ()) = n := by
  have := owed_times (c, q) h' n hn
  rw [ht, Nat.one_mul] at this
  rw [← this]; unfold gs; dsimp only; rw [if_neg (by omega)]

theorem credits_of (c : Dev nD) : (Pipeline.launchCred (fun d => rem d 28) c : sProp 𝕄) ⊢ credits (F := F) c := by
  have hc : c.val < 8 := c.isLt
  have hsub : (Finset.Ico 4 50).image (fun q => SemLoc.dma (dq q)) ⊆ (Finset.univ : Finset (SemLoc sig)).erase (.reg barS) := by
    intro x hx
    obtain ⟨q, -, rfl⟩ := Finset.mem_image.1 hx
    exact Finset.mem_erase.2 ⟨by rintro ⟨⟩, Finset.mem_univ _⟩
  have hinj : Set.InjOn (fun q => (SemLoc.dma (dq q) : SemLoc sig)) (Finset.Ico 4 50) := fun a ha b hb h => by
    have ha := Finset.mem_Ico.1 (Finset.mem_coe.1 ha); have hb := Finset.mem_Ico.1 (Finset.mem_coe.1 hb)
    exact dq_inj ha.2 hb.2 (SemLoc.dma.inj h)
  have hbar : (∑ d : Dev nD, rem d 28 (barCell c) ()) = 7 := by
    have := owed_times (c, 0) (by omega) 1 (fun d k h => by
      have h := congrArg Prod.snd h
      unfold dueN at h; unfold dueA
      split at h; · dsimp only at h; omega
      split at h; · dsimp only at h; omega
      rw [if_neg ‹_›, if_neg ‹_›])
    rw [times_bar] at this
    exact this
  have hrecv (t : ℕ) (ht : t ∈ Finset.Ico 1 8) (h : ℕ) (hh : h < 2) : (∑ d : Dev nD, rem d 28 (dcell c (18 + (2 * (sub c t).val + h))) ()) = NY := by
    have ht := Finset.mem_Ico.1 ht
    have hs : (sub c t).val < 8 := (sub c t).isLt
    refine owed_dma c _ (by omega) (by omega) NY ?_ fun d k e => ?_
    · have := times_recv c ⟨t - 1, by omega⟩ ⟨h, hh⟩
      dsimp only at this
      rwa [show 1 + (t - 1) = t by omega] at this
    · have hd : d.val < 8 := d.isLt
      have e := congrArg Prod.snd e
      unfold dueN at e; unfold dueA
      split at e; · dsimp only at e; omega
      split at e
      · rw [if_neg ‹_›, if_pos ‹_›]
      · dsimp only at e; omega
  have hamax (t : ℕ) (ht : t ∈ Finset.Ico 1 8) : (∑ d : Dev nD, rem d 28 (dcell c (42 + (sh c t).val)) ()) = NA := by
    have ht := Finset.mem_Ico.1 ht
    have hs : (sh c t).val < 8 := (sh c t).isLt
    refine owed_dma c _ (by omega) (by omega) NA ?_ fun d k e => ?_
    · have := times_amax c ⟨t - 1, by omega⟩
      dsimp only at this
      rwa [show 1 + (t - 1) = t by omega] at this
    · have hd : d.val < 8 := d.isLt
      have e := congrArg Prod.snd e
      unfold dueN at e; unfold dueA
      split at e; · rw [if_pos ‹_›]
      split at e <;> · dsimp only at e; omega
  unfold Pipeline.launchCred credits
  rw [bigSep_univ_at _ (SemLoc.reg barS), launch_at c _ _ hbar]
  refine (sep_mono_right ((bigSep_subset hsub).trans (Entails.of_eq ((bigSep_image_of_injOn hinj _).trans (cells_split c _))))).trans ?_
  iintro ⟨A, B⟩
  isplitl [A]; · iexact A
  icases B with ⟨-, ⟨-, B⟩, -, -, C⟩
  isplitl [B]
  · iapply (each fun t ht => Entails.of_eq ?_) $$ B
    rw [launch_at c (.dma (dq (18 + 2 * (sub c t).val))) NY (hrecv t ht 0 (by omega)), launch_at c _ _ (hrecv t ht 1 (by omega))]
  · iapply (each fun t ht => Entails.of_eq ?_) $$ C
    rw [launch_at c _ _ (hamax t ht)]

end Cert.KernelIdeal.A2A

end
-- ==== Proof.Fund.lean ====
/- The launch: every cell allocated, every token dealt to the device that pays with it. -/
module

public import proofs.«01_k».proof.Proof.Deal

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem apart {Φ Ψ : Dev nD → sProp 𝕄} : bigSep Finset.univ (fun c => iprop(Φ c ∗ Ψ c)) ⊢ iprop(bigSep Finset.univ Φ ∗ bigSep Finset.univ Ψ) := Entails.of_eq (zip _ _ _)
theorem beside {Φ Ψ : Dev nD → sProp 𝕄} : iprop(bigSep Finset.univ Φ ∗ bigSep Finset.univ Ψ) ⊢ bigSep Finset.univ (fun c => iprop(Φ c ∗ Ψ c)) := Entails.of_eq (zip _ _ _).symm

def barEmb : Dev nD ↪ GSem nD τ sig := ⟨fun c => barCell c, fun _ _ h => congrArg (fun g : GSem nD τ sig => g.1.1) h⟩
def dmaEmb : Dev nD × Fin 46 ↪ GSem nD τ sig :=
  ⟨fun x => dcell x.1 (4 + x.2.val), fun x y h => by
    have h1 : x.1 = y.1 := congrArg (fun g : GSem nD τ sig => g.1.1) h
    have hx := x.2.isLt; have hy := y.2.isLt
    refine Prod.ext h1 (Fin.ext ?_)
    have := dq_inj (q := 4 + x.2.val) (q' := 4 + y.2.val) (by omega) (by omega) (SemLoc.dma.inj (congrArg Prod.snd h))
    omega⟩

/-- The barrier's cells, and the transfers'. -/
abbrev barCells : Finset (GSem nD τ sig) := Finset.univ.map barEmb
abbrev dmaCells : Finset (GSem nD τ sig) := Finset.univ.map dmaEmb

theorem cells_disjoint : Disjoint (barCells : Finset (GSem nD τ sig)) dmaCells := by
  rw [Finset.disjoint_left]
  rintro g h h'
  obtain ⟨c, -, rfl⟩ := Finset.mem_map.mp h
  obtain ⟨x, -, h⟩ := Finset.mem_map.mp h'
  have := congrArg Prod.snd h
  revert this; rintro ⟨⟩

theorem bar_mem (c : Dev nD) : barCell c ∈ (barCells ∪ dmaCells : Finset (GSem nD τ sig)) :=
  Finset.mem_union_left _ (Finset.mem_map_of_mem barEmb (Finset.mem_univ c))
theorem dma_mem (c : Dev nD) {q : ℕ} (h : 4 ≤ q) (h' : q < 50) : dcell c q ∈ (barCells ∪ dmaCells : Finset (GSem nD τ sig)) := by
  refine Finset.mem_union_right _ (Finset.mem_map.2 ⟨(c, ⟨q - 4, by omega⟩), Finset.mem_univ _, ?_⟩)
  show dcell c (4 + (q - 4)) = _
  rw [show 4 + (q - 4) = q by omega]

/-- A family over the transfers' cells, device by device. -/
theorem dma_fam (Ψ : GSem nD τ sig → sProp 𝕄) : bigSep dmaCells Ψ = bigSep Finset.univ fun c : Dev nD => bigSep (Finset.Ico 4 50) fun q => Ψ (dcell c q) := by
  rw [bigSep_map, bigSep_univ_prod]
  exact bigSep_congr fun c _ => by rw [show Finset.Ico 4 50 = Finset.Ico 4 (4 + 46) from rfl, Ico_range, range_fin]; rfl

/-- The semaphores of a device that outlive the kernel's scope: its barrier's. -/
theorem outer_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- All of a resource on one device. -/
def onDev (c₀ : Dev nD) (P : sProp 𝕄) (c : Dev nD) : sProp 𝕄 := if c = c₀ then P else iprop(emp)
theorem onDev_all (c₀ : Dev nD) (P : sProp 𝕄) : bigSep Finset.univ (onDev (F := F) c₀ P) = P := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- The protocol's launch element, given whole to the first device until the launch's common step. -/
def seedG : Dev nD → sProp 𝕄 := onDev 0 (BI.own (ER (launchOf barCells dmaCells toks)))

section
variable (X : Dev nD → Vec F S512x4096 .bf16) (Wt : Dev nD → Vec F S4096x8192 .bf16)

theorem inv_at (κ : GSem nD τ sig → ℕ) {g : GSem nD τ sig} (hg : g ∈ (barCells ∪ dmaCells : Finset (GSem nD τ sig))) :
    (bigSep (barCells ∪ dmaCells) fun g => (cellInv ER (Rd X Wt) (κ g) g : sProp 𝕄)) ⊢ cellInv ER (Rd X Wt) (κ g) g := bigSep_elim hg
theorem reached_at (c : Dev nD) : (bigSep barCells fun g => (reached ER g 0 : sProp 𝕄)) ⊢ reached ER (barCell c) 0 :=
  bigSep_elim (Finset.mem_map_of_mem barEmb (Finset.mem_univ c))

/-- The knowledge every device shares, from the cells allocated at the launch. -/
theorem recs_intro (κ : GSem nD τ sig → ℕ) :
    iprop(levAts L lv ∗ (bigSep (barCells ∪ dmaCells) fun g => cellInv ER (Rd X Wt) (κ g) g) ∗ bigSep barCells fun g => reached ER g 0) ⊢ recs X Wt := by
  unfold recs
  iintro ⟨#Hl, #Hi, #Hr⟩
  isplitr; · iexact Hl
  iapply (show iprop((bigSep (barCells ∪ dmaCells) fun g => cellInv ER (Rd X Wt) (κ g) g) ∗ bigSep barCells fun g => (reached ER g 0 : sProp 𝕄)) ⊢ _ from
    bigSep_intro_persistent fun c _ => by
      iintro ⟨#Hi, #Hr⟩
      isplitr
      · iexists κ (barCell c)
        iapply (inv_at X Wt κ (bar_mem c)); iexact Hi
      isplitr
      · iapply (reached_at c); iexact Hr
      iapply (show (bigSep (barCells ∪ dmaCells) fun g => cellInv ER (Rd X Wt) (κ g) g) ⊢ (bigSep (Finset.Ico 4 50) (fun q => iprop(∃ κ, cellInv ER (Rd X Wt) κ (dcell c q))) : sProp 𝕄) from
        bigSep_intro_persistent fun q hq => by
          have hq := Finset.mem_Ico.1 hq
          iintro #Hi
          iexists κ (dcell c q)
          iapply (inv_at X Wt κ (dma_mem c hq.1 hq.2)); iexact Hi)
      iexact Hi)
  isplitr; · iexact Hi
  iexact Hr

/-- What a device holds of the protocol when it starts. -/
def deal (c : Dev nD) : sProp 𝕄 :=
  iprop(atPos ER (barCell c) 0 ∅ 0 ∗ bigSep (Finset.Ico 4 50) (fun q => openTok ER (dcell c q)) ∗ duties (F := F) c)

/-- What rides beside a device's buffers until its kernel starts. -/
def ride (c : Dev nD) : sProp 𝕄 := iprop(recs X Wt ∗ deal (F := F) c ∗ credits (F := F) c ∗ ow c 28)

/-- What each device brings of its own to the launch. -/
def lot (B : Dev nD → sProp 𝕄) (c : Dev nD) : sProp 𝕄 := iprop(B c ∗ owes (c : Thread nD τ) (rem c 28) ∅ ∗ credits (F := F) c)

theorem ride_intro (B : Dev nD → sProp 𝕄) (c : Dev nD) : iprop(recs X Wt ∗ (deal (F := F) c ∗ lot (F := F) B c)) ⊢ iprop(B c ∗ ride X Wt c) := by
  unfold lot ride ow
  iintro ⟨#Hr, Hd, HB, HO, HC⟩
  isplitl [HB]; · iexact HB
  isplitr; · iexact Hr
  isplitl [Hd]; · iexact Hd
  isplitl [HC]; · iexact HC
  iexists ∅; iexact HO

/-- The launch's common step: every cell allocated, every token dealt. -/
theorem launch_step (B B' : Dev nD → sProp 𝕄) (P : Dev nD → sProp 𝕄) (hB : ∀ c, B' c ⊢ B c) :
    iprop((bigSep Finset.univ fun c : Dev nD => iprop(B' c ∗ unscopedSems0 c ∗ owes (c : Thread nD τ) (rem c 28) ∅
        ∗ Pipeline.launchCred (fun d => rem d 28) c ∗ P c ∗ seedG (F := F) c)) ∗ levAts L lv)
      ⊢ (|={Set.univ}=> bigSep Finset.univ fun c => iprop(B c ∗ ride X Wt c) : sProp 𝕄) := by
  have hcore (c : Dev nD) : iprop(B' c ∗ unscopedSems0 c ∗ owes (c : Thread nD τ) (rem c 28) ∅
        ∗ Pipeline.launchCred (fun d => rem d 28) c ∗ P c ∗ seedG (F := F) c) ⊢ iprop(lot (F := F) B c ∗ (semVal (barCell c) 0 ∗ seedG (F := F) c)) := by
    rw [outer_sems]; unfold lot
    iintro ⟨Hb, Hs, HO, HC, -, HG⟩
    isplitr [Hs HG]
    · isplitl [Hb]; · iapply (hB c); iexact Hb
      isplitl [HO]; · iexact HO
      iapply (credits_of c); iexact HC
    · isplitl [Hs] <;> iassumption
  iintro ⟨H, #Hl⟩
  ihave H' := (show (bigSep Finset.univ fun c : Dev nD => iprop(B' c ∗ unscopedSems0 c ∗ owes (c : Thread nD τ) (rem c 28) ∅
        ∗ Pipeline.launchCred (fun d => rem d 28) c ∗ P c ∗ seedG (F := F) c))
      ⊢ (bigSep Finset.univ fun c : Dev nD => iprop(lot (F := F) B c ∗ (semVal (barCell c) 0 ∗ seedG (F := F) c)) : sProp 𝕄) from bigSep_mono fun c _ => hcore c) $$ H
  ihave H2 := apart $$ H'; icases H2 with ⟨HB, H3⟩
  ihave H4 := apart $$ H3; icases H4 with ⟨Hv, HG⟩
  ihave Hu := (show bigSep Finset.univ (seedG (F := F)) ⊢ BI.own (ER (launchOf barCells dmaCells toks)) from
    Entails.of_eq (onDev_all 0 _)) $$ HG
  imod (Rounds.fund_launch ER (Rd X Wt) cells_disjoint (fun g _ h => h) toks) $$ [Hv Hu] with ⟨%κ, -, #Hinv, #Hr, Hat, Hopen, Htok⟩
  · isplitl [Hv]
    · iapply (show (bigSep Finset.univ fun c : Dev nD => semVal (barCell c) 0) ⊢ (bigSep barCells fun g => semVal g 0 : sProp 𝕄) from
        Entails.of_eq (bigSep_map (s := Finset.univ) barEmb (Φ := fun g : GSem nD τ sig => (semVal g 0 : sProp 𝕄))).symm) $$ Hv
    · iexact Hu
  imodintro
  iapply (bigSep_with_persistent (R := recs X Wt) (Φ := fun c => iprop(deal (F := F) c ∗ lot (F := F) B c)) fun c _ => ride_intro X Wt B c)
  isplitr
  · iapply (recs_intro X Wt κ)
    isplitr; · iexact Hl
    isplitr; · iexact Hinv
    iexact Hr
  iapply beside
  isplitr [HB]
  · unfold deal
    iapply beside
    isplitl [Hat]
    · iapply (show (bigSep barCells fun g => atPos ER g 0 ∅ 0) ⊢ (bigSep Finset.univ fun c : Dev nD => atPos ER (barCell c) 0 ∅ 0 : sProp 𝕄) from
        Entails.of_eq (bigSep_map (s := Finset.univ) barEmb (Φ := fun g : GSem nD τ sig => (atPos ER g 0 ∅ 0 : sProp 𝕄)))) $$ Hat
    iapply beside
    isplitl [Hopen]
    · iapply (Entails.of_eq (dma_fam (F := F) (fun g => openTok ER g))) $$ Hopen
    iapply (show (bigSep Finset.univ fun c : Dev nD => bigSep (Finset.range 49) (tokAt (F := F) c)) ⊢ bigSep Finset.univ (duties (F := F)) from bigSep_mono fun c _ => toks_duties c)
    iapply (Entails.of_eq (toks_eq (F := F))) $$ Htok
  · iexact HB

end

end Cert.KernelIdeal.A2A

end
-- ==== Proof.Tbl.lean ====
/- The table each device computes before its kernel. -/
module

public import proofs.«01_k».proof.Proof.Facts
public import proofs.«01_k».proof.Proof.Gen.KernelIdeal.Regions

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (m : (ℓ : Loc nD τ sig) → Buf (Elt F) ℓ)

/-- The table the host computes on each device. -/
theorem V1_tab (c : Dev nD) : V1 m c main_v8 = tb (F := F) c := by
  unfold V1
  after_results
  funext z
  have key : ∀ (c : Dev nD) (k : Fin 8), IntOp.remsi .host (IntOp.remui .host (IntOp.divui .host (Dev.word c) 1#32) 8#32 + lit0 k) 8#32
      = BitVec.ofNat 32 ((c.val + k.val + 1) % 8) := by decide +kernel
  refine (show _ = _ from key c (S8.rowMajor z)).trans ?_
  unfold tb
  rw [Shape.rowMajor_val_one]

end

end Cert.KernelIdeal.A2A

end
-- ==== Proof.Region.lean ====
/- The kernel as a region of each device's program. -/
module

public import proofs.«01_k».proof.Proof.Body
public import proofs.«01_k».proof.Proof.Fund
public import proofs.«01_k».proof.Proof.Tbl

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's own semaphores: every transfer's. -/
abbrev osem : Fin 46 → SemLoc sig := fun k => .dma (dq (4 + k.val))
theorem osem_facts : Pipeline.OwnSemFacts spec0 osem := by decide +kernel

theorem own_nil (c : Dev nD) : (Pipeline.ownSems0 osem c : sProp 𝕄) = bigSep (Finset.Ico 4 50) (nil (F := F) c) := by
  rw [show Finset.Ico 4 50 = Finset.Ico 4 (4 + 46) from rfl, Ico_range, range_fin]; rfl

abbrev admD : Dev nD → (p : Fin 1) → (pcfgs (F := F) p).Adm := fun c _ => adm c

set_option backward.isDefEq.respectTransparency.types false in
theorem cells_inj : Function.Injective (Pipeline.PerCore.cellOf (nD := nD) (τ := τ) (Pipeline.pinD (pcfgs (F := F)) admD)) :=
  Pipeline.PerCore.cellOf_injective (fun c => Pipeline.pin (pcfgs (F := F)) (admD c))
    (fun c p => match p with | 0 => Pipeline.specSemsDistinct_of_nodup _ (semsDistinct 0))
    (fun c p p' h => absurd (Subsingleton.elim p p') h)

theorem table_held (c : Dev nD) : (Pipeline.prefHeld pre0 c (fun _ => fullShare) (tabC (F := F) c) : sProp 𝕄) = tab (F := F) c := by
  unfold Pipeline.prefHeld
  exact (congrArg (fun s => bigSep s _) (show (Finset.univ : Finset (Fin 1)) = {0} from by decide)).trans
    (bigSep_singleton (Φ := fun k : Fin 1 => (((c : Thread nD τ).loc (pre0.ref k)) ↦{fullShare} tabC (F := F) c k : sProp 𝕄)))

section
variable (m : (ℓ : Loc nD τ sig) → Buf (Elt F) ℓ)

/-- The contents the kernel starts from. -/
abbrev VV (c : Dev nD) (b : Ref sig .tc) : Buf (Elt F) ((c : Thread nD τ).loc b) := V1 m c b

abbrev DD : (p : Fin 1) → (c : Dev nD) → Pipeline.Dat τ (Elt F) Unit ℕ UU ℕ (Pipeline.pinD (pcfgs (F := F)) admD c p) c := fun _ c => dats (VV m) 0 c

theorem share_full (c : Dev nD) (w : Fin 3) : (dats (VV m) 0 c).share w = fullShare := by
  unfold Pipeline.Dat.share; split <;> rfl

/-- Before the kernel: every buffer as the host left it, and the protocol's part. -/
def before_ (c : Dev nD) : sProp 𝕄 :=
  iprop(StableHlo.held (c : Thread nD τ) (Pipeline.ucRefs τ sig) (V1 m c) ∗ ride (rows (VV m)) (wts (VV m)) c)

/-- After it: the windows' arrays as it left them, and the barrier's semaphore at rest. -/
def after_ (c : Dev nD) : sProp 𝕄 :=
  iprop((dats (VV m) 0 c).arrays ((dats (VV m) 0 c).arrAt · (cfg0 (adm (F := F) c)).N) ∗ semVal (barCell c) 0)

set_option backward.isDefEq.respectTransparency.types false in
theorem enter (c : Dev nD) : iprop(before_ m c ∗ Pipeline.ownSems0 osem c ∗ levAts L lv)
    ⊢ |={Set.univ}=> iprop((dats (VV m) 0 c).arrays ((dats (VV m) 0 c).arrAt · 0) ∗ Pipeline.prefHeld pre0 c (fun _ => fullShare) (tabC (F := F) c)
        ∗ (dats (VV m) 0 c).owesAt () 0 ∗ (recs (rows (VV m)) (wts (VV m)) ∗ begin_ (F := F) c) ∗ emp) := by
  unfold before_ ride deal
  rw [own_nil, ← Pipeline.unscopedBufs_held]
  iintro ⟨⟨Hb, #Hr, ⟨Ha, Ho, Hd⟩, Hc, HO⟩, Hn, -⟩
  ihave Hb := (Pipeline.PerCore.arrays_of_unscopedBufs (pcfgs (F := F)) admD (DD m) (p := 0) winFacts0 arr_whole0 c (share_full m c) (fun b => V1 m c b) (fun w => rfl)) $$ Hb
  icases Hb with ⟨Harr, Hrest⟩
  ihave Hrest := (Entails.of_eq (Pipeline.unscopedRest_split preFacts0 c (fun b => V1 m c b))) $$ Hrest
  icases Hrest with ⟨Ht, -⟩
  imod (hopen (rows (VV m)) (wts (VV m)) c) $$ [Ha Ho Hd Hc Hn] with HB
  · isplitr; · iexact Hr
    isplitl [Hd]; · iexact Hd
    isplitl [Hc]; · iexact Hc
    isplitl [Ha]; · iexact Ha
    isplitl [Ho]; · iexact Ho
    iexact Hn
  imodintro
  isplitl [Harr]; · iexact Harr
  isplitl [Ht]
  · iapply (Entails.of_eq (congrArg (Pipeline.prefHeld pre0 c (fun _ => fullShare)) (show (fun k => V1 m c (pre0.ref k)) = tabC (F := F) c from
      funext fun (k : Fin 1) => match k with | 0 => V1_tab m c))) $$ Ht
  isplitl [HO]
  · iapply (owe_close (VV m) c 0); iexact HO
  isplitl [HB]
  · isplitr; · iexact Hr
    iexact HB
  iempintro

theorem first_place (c : Dev nD) : iprop((recs (rows (VV m)) (wts (VV m)) ∗ begin_ (F := F) c) ∗ Pipeline.prefHeld pre0 c (fun _ => fullShare) (tabC (F := F) c)
    ∗ Pipeline.scopedRest spec0 c) ⊢ hold (VV m) c 0 := by
  unfold hold
  rw [if_pos rfl, table_held, scopedRest0_eq]
  iintro ⟨⟨Hr, HB⟩, Ht, Hs⟩
  isplitl [Hr]; · iexact Hr
  isplitl [Ht]; · iexact Ht
  isplitl [Hs]; · unfold bufs; iexact Hs
  iexact HB

theorem last_place (c : Dev nD) : hold (VV m) c 17 ⊢ iprop(semVal (barCell c) 0 ∗ Pipeline.ownSems0 osem c ∗ Pipeline.scopedRest spec0 c) := by
  unfold hold
  rw [if_neg (by omega), if_pos rfl, own_nil, scopedRest0_eq]
  unfold quiet bufs
  iintro ⟨-, Hs, Hb, Hn⟩
  isplitl [Hb]; · iexact Hb
  isplitl [Hn]; · iexact Hn
  iexact Hs

theorem leave (c : Dev nD) : iprop((dats (VV m) 0 c).arrays ((dats (VV m) 0 c).arrAt · (cfg0 (adm (F := F) c)).N)
      ∗ (dats (VV m) 0 c).owesAt () (Fin.last (cfg0 (adm (F := F) c)).N) ∗ semVal (barCell c) 0 ∗ emp)
    ⊢ |={Set.univ}=> iprop(after_ m c ∗ ∃ W, owes (c : Thread nD τ) (0 : CellTallies nD τ sig Unit) W) := by
  unfold after_
  iintro ⟨Ha, HO, Hb, -⟩
  imodintro
  isplitl [Ha Hb]
  · isplitl [Ha] <;> iassumption
  ihave HO := (owe_open (VV m) c (Fin.last _)) $$ HO
  iapply (show (ow c (debt (Fin.last (cfg0 (adm (F := F) c)).N).val) : sProp 𝕄) ⊢ iprop(∃ W, owes (c : Thread nD τ) (0 : CellTallies nD τ sig Unit) W) from
    (.rfl : (ow (F := F) c (debt 17)) ⊢ ow c (debt 17))) $$ HO

theorem stage_sems : ∀ (w : Fin 3) (s : Fin (spec0 w).nbuf), ((spec0 w).sem s).val < 18 := by decide

set_option backward.isDefEq.respectTransparency.types false in
/-- The kernel's region of each device's program. -/
def region : Pipeline.PerCore.RegionSeg (pcfgs (F := F)) admD (DD m) () (defs₀ (F := F)) 𝒱₀ L lv (0 : Fin 1) where
  win := winFacts0.to₀
  block_pos := block_pos0
  stage_whole := stage_whole0
  K := Fin 46
  osem := osem
  ho := osem_facts
  hbody c := (obligation (VV m) c).loose
  hwaits c := Pipeline.PerCore.cellsWaits_intro _ _ _ _ _ fun w s t => mayWait_stage c _ (stage_sems w s) _
  pre := before_ m
  post c := iprop(after_ m c ∗ ∃ W, owes (c : Thread nD τ) (0 : CellTallies nD τ sig Unit) W)
  X c := iprop(recs (rows (VV m)) (wts (VV m)) ∗ begin_ (F := F) c)
  Y c := semVal (barCell c) 0
  Z _ := iprop(emp)
  hentry := enter m
  hin := first_place m
  hout := last_place m
  hexit := leave m

end

end Cert.KernelIdeal.A2A

end
-- ==== Proof.RunAll.lean ====
/- The run of all devices. -/
module

public import proofs.«01_k».proof.Proof.Region

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (m : (ℓ : Loc nD τ sig) → Buf (Elt F) ℓ) (ρ : Dev nD → PrngReg)

/-- What the host runs before the kernel. -/
abbrev hostSeg (c : Dev nD) : Pipeline.HostSeg (Ix := Unit) (Name := ℕ) (U := UU) (Lvl := ℕ) (pcfgs (F := F)) (defs₀ (F := F)) 𝒱₀ L lv :=
  Pipeline.HostSeg.ofOps _ _ _ _ _ (Pipeline.ucRefs τ sig) (hostOps0 (F := F) c)
    (fun op h => Pipeline.sub_ucRefs op ((List.forall_iff_forall_mem.mp (hostOps0_sub c)) op h))
    (fun op h => (List.forall_iff_forall_mem.mp (hostOps0_fresh c)) op h) (V0 m) (ride (rows (VV m)) (wts (VV m)))

abbrev parts (c : Dev nD) : List (Pipeline.PerCore.Seg (pcfgs (F := F)) admD (DD m) () (defs₀ (F := F)) 𝒱₀ L lv) := [.host (hostSeg m c), .region (region m)]

set_option backward.isDefEq.respectTransparency.types false in
theorem main_wp (c : Dev nD) (Q : PUnit → sProp 𝕄) :
    wp frame (wpE (defs (F := F)) 𝒱₀.lift (c.tc : Thread nD τ) none) Set.univ (Pipeline.PerCore.Seg.run (parts m c)) Q
      ⊢ wp frame (wpE (defs (F := F)) 𝒱₀.lift (c.tc : Thread nD τ) none) Set.univ (main (F := F) c) Q := by
  rw [main_chain c, Pipeline.PerCore.Seg.run_eq_chain]
  simp only [parts, List.map, Pipeline.PerCore.Seg.prog, hostSeg, Pipeline.HostSeg.ofOps]
  exact .rfl

/-- The launch element: the pipeline's and the protocol's. -/
def u₀ : UU :=
  (initOf (Pipeline.PerCore.cells (Pipeline.pinD (pcfgs (F := F)) admD) cells_inj) (Pipeline.PerCore.launchToks (Pipeline.pinD (pcfgs (F := F)) admD) cells_inj),
    launchOf barCells dmaCells toks)

/-- What the run leaves on a device. -/
def Left (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v9) = (outBuf (fun d => m ((d : Thread nD τ).loc main_arg0)) (fun d => m ((d : Thread nD τ).loc main_arg1)) c : Vec F S4096x1024 .bf16)

theorem outer_eq : ∀ sm : SemLoc sig, sm.isScoped .tc = false → sm = .reg barS := by decide

theorem left_of (c : Dev nD) (s : MemSt nD τ sig (Elt F))
    (h : ∀ w : Fin 3, s.mem ((spec0 w).arr.view.loc (c.tc : Thread nD τ)) = (dats (VV m) 0 c).arrAt w (cfg0 (adm (F := F) c)).N) : Left m c s := by
  have h0 := (h 0).trans ((dats (VV m) 0 c).arrAt_in (0 : Fin 3) rfl _)
  have h1 := (h 1).trans ((dats (VV m) 0 c).arrAt_in (1 : Fin 3) rfl _)
  have h2 := (h 2).trans (arr2_final (VV m) c)
  refine ⟨h0.trans (V1_of m c main_arg0 (by decide)), h1.trans (V1_of m c main_arg1 (by decide)), h2.trans ?_⟩
  have e0 : rows (VV m) = fun d : Dev nD => m ((d : Thread nD τ).loc main_arg0) := funext fun d => V1_of m d main_arg0 (by decide)
  have e1 : wts (VV m) = fun d : Dev nD => m ((d : Thread nD τ).loc main_arg1) := funext fun d => V1_of m d main_arg1 (by decide)
  rw [e0, e1]

set_option backward.isDefEq.respectTransparency.types false in
set_option maxRecDepth 8192 in
/-- Every run ends, with the arguments as they were, each device's result the block the kernel makes, and every semaphore at rest. -/
theorem run_main : θ_run (defs (F := F)) (onTc (τ := τ) (main (F := F))) ⟨m, fun _ => 0, ρ⟩ (fun r => (∀ c : Dev nD, Left m c r.2) ∧ r.2.sem = fun _ => 0) :=
  Pipeline.PerCore.θ_run_regions_kit_sems (pcfgs (F := F)) admD (DD m) () cells_inj EP (defs₀ (F := F)) 𝒱₀ L lv m ρ main (parts m)
    (main_wp m)
    (fun c => by simp only [parts, Pipeline.PerCore.Seg.pipes_host, Pipeline.PerCore.Seg.pipes_region, Pipeline.PerCore.Seg.pipes_nil]; decide)
    (O₀ := fun c => rem c 28) (hL := L_of_ne) (G := seedG) (u₀ := u₀)
    (hu₀ := by
      unfold u₀ seedG
      iintro Hu
      ihave H := (ownU_pair _ _) $$ Hu
      icases H with ⟨HP, HX⟩
      imodintro
      isplitl [HP]; · iexact HP
      rw [onDev_all]; iexact HX)
    (T₀ := fun c => iprop(StableHlo.held (c : Thread nD τ) (Pipeline.ucRefs τ sig) (V0 m c) ∗ ride (rows (VV m)) (wts (VV m)) c))
    (Tₙ := after_ m)
    (hch := fun c => ⟨.rfl, .rfl, .rfl⟩)
    (hinit := launch_step (rows (VV m)) (wts (VV m)) (fun c => StableHlo.held (c : Thread nD τ) (Pipeline.ucRefs τ sig) (V0 m c)) _ _
      fun c => Entails.of_eq (Pipeline.unscopedBufs_held c (V0 m c)))
    (QY := fun c s => Left m c s ∧ s.sem (barCell c) = 0)
    (hfin := fun c s' => by
      unfold after_
      iintro ⟨⟨Ha, Hb⟩, HSI⟩
      icombine HSI Hb gives %hb
      ihave H := (Pipeline.PerCore.arrays_read (pcfgs (F := F)) admD (DD m) (p := 0) arr_whole0 c (share_full m c) ((dats (VV m) 0 c).arrAt · (cfg0 (adm (F := F) c)).N) s') $$ [Ha HSI]
      · isplitl [Ha] <;> iassumption
      icases H with ⟨%ha, HSI⟩
      imodintro
      isplitr
      · ipureintro
        exact ⟨left_of m c _ ha, by simpa using hb⟩
      iexact HSI)
    (hQ := fun s h hs => ⟨fun c => (h c).1, sem_eq_zero hs fun c sm hsm => by
      obtain rfl := outer_eq sm hsm
      exact (h c).2⟩)

end

end Cert.KernelIdeal.A2A

end
-- ==== Proof.Same.lean ====
/- The program printed for bits and the program printed for ideal values have one text: their functions, body tables
   and mains are equal, so a run of one is a run of the other. -/
module

public import proofs.«01_k».proof.Proof.Gen.Kernel
public import proofs.«01_k».proof.Proof.RunAll
public import Idealize.ShloMosaic.Adequacy

@[expose] public section

noncomputable section

namespace Cert.KernelIdeal.A2A

open Idealize.ShloMosaic Idealize.SL.Sem

attribute [local instance] Cert.Kernel.Gen.facts Cert.KernelIdeal.Gen.facts

variable {F : FTy → Type} [FloatOps F]

set_option maxRecDepth 20000 in
/-- The two mains are one. -/
theorem main_same : Cert.Kernel.main (F := F) = Cert.KernelIdeal.main (F := F) := by
  funext d
  rfl

set_option maxRecDepth 20000 in
set_option maxHeartbeats 2000000 in
/-- The kernels' body tables are one: the one function, on the same buffers. -/
theorem bodies_same : Cert.Kernel.defs₀ (F := F) = Cert.KernelIdeal.defs₀ (F := F) := by
  unfold Cert.Kernel.defs₀ Cert.KernelIdeal.defs₀
  congr 1
  funext l
  match l with
  | 0 => funext x; obtain ⟨t, s⟩ := x; rfl
  | ⟨_ + 1, h⟩ => exact absurd h (Nat.not_lt.2 (Nat.le_add_left _ _))

/-- The body tables with the regions' and pipelines' labels are one. -/
theorem defs_same : Cert.Kernel.defs (F := F) = Cert.KernelIdeal.defs (F := F) :=
  congrArg (Pipeline.defs (Cert.KernelIdeal.pcfgs (F := F))) (bodies_same (F := F))

/-- A run under equal tables of equal mains is the same run. -/
theorem run_of_same {D D' : Defs nD τ sig (Elt F) (Pipeline.Sig Λ₀ (Fin 1) fun p => (pcfgs (F := F) p).Adm)}
    {M M' : Dev nD → Prog (TpuEff nD τ sig (Elt F) (Pipeline.Sig Λ₀ (Fin 1) fun p => (pcfgs (F := F) p).Adm) .tc) PUnit}
    (hD : D = D') (hM : M = M') {s} {Q} (h : θ_run D' (onTc (τ := τ) M') s Q) : θ_run D (onTc (τ := τ) M) s Q := by
  subst hD hM
  exact h

end Cert.KernelIdeal.A2A

end
-- ==== Proof.Quant.lean ====
/- The quantiser over the extended reals: multiplying by the inverse scale or dividing by the scale is the same. -/
module

public import proofs.«01_k».proof.Proof.Facts
public import Idealize.ShloMosaic.PureOps.Ideal.Laws
public import Idealize.ShloMosaic.Lib.MatmulPlain
public import Idealize.ShloMosaic.Lib.KernelVsHost

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The largest code. -/
def top8 : EReal := Ideal.ofBits .f32 0x43E00000#32
/-- The least code. -/
def bot8 : EReal := Ideal.ofBits .f32 0xC3E00000#32

theorem top8_real : top8 = ((448 : ℝ) : EReal) := by
  unfold top8
  simp [Ideal.ofBits, Ideal.ieee]
  rw [← EReal.coe_mul]
  norm_num

/-- Clipped to the codes. -/
def clip8 (v : EReal) : EReal := min top8 (max bot8 v)

/-- An element through the quantiser and back, with the largest magnitude `a`. -/
def quant8 (a y : EReal) : EReal := clip8 (Ideal.div y (Ideal.div a top8)) * Ideal.div a top8

theorem top8_ne : top8 ≠ 0 := by
  rw [top8_real]
  exact_mod_cast (by norm_num : (448 : ℝ) ≠ 0)

theorem scale_eq (a : EReal) : Ideal.div a top8 = a * top8⁻¹ := if_neg top8_ne

/-- The kernel's form: by the inverse scale, which is taken of the magnitude itself. -/
theorem quant8_by_inverse (a y : EReal) : clip8 (y * Ideal.div top8 a) * Ideal.div a top8 = quant8 a y := by
  unfold quant8
  rw [scale_eq]
  by_cases ha : a = 0
  · rw [ha, zero_mul, mul_zero, mul_zero]
  · have ht : top8⁻¹ ≠ 0 := by
      rw [top8_real, ← EReal.coe_inv]
      exact_mod_cast (by norm_num : ((448 : ℝ))⁻¹ ≠ 0)
    have hs : a * top8⁻¹ ≠ 0 := mul_ne_zero ha ht
    have e1 : Ideal.div top8 a = top8 * a⁻¹ := if_neg ha
    have e2 : Ideal.div y (a * top8⁻¹) = y * (a * top8⁻¹)⁻¹ := if_neg hs
    have e3 : (a * top8⁻¹)⁻¹ = top8 * a⁻¹ := by
      rw [EReal.mul_inv, EReal.inv_inv (by rw [top8_real]; exact EReal.coe_ne_bot _) (by rw [top8_real]; exact EReal.coe_ne_top _), mul_comm]
    rw [e1, e2, e3]

/-- The magnitude of a number. -/
def mag (x : EReal) : EReal := max x (-x)

theorem mag_nonneg (x : EReal) : 0 ≤ mag x := by
  unfold mag
  rcases le_total 0 x with h | h
  · exact le_max_of_le_left h
  · exact le_max_of_le_right (by rw [EReal.le_neg]; simpa using h)

end Cert.KernelIdeal.A2A

end
-- ==== Proof.Amax.lean ====
/- The largest magnitude that a device takes from all maxima bounds every block of the product, and nothing more. -/
module

public import proofs.«01_k».proof.Proof.Quant
public import proofs.«01_k».proof.Proof.Finish
public import Idealize.ShloMosaic.Lib.Pipeline.Value

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem lowest : FloatOps.ofBits (F := Ideal) .f32 0xFF800000#32 = (⊥ : EReal) := by
  show Ideal.ofBits .f32 0xFF800000#32 = ⊥
  simp [Ideal.ofBits, Ideal.ieee]

theorem shapeCast_le {s t : Shape} (x : s.Idx → EReal) (h : s.ShapeCasts t) (u : EReal) : (∀ j, shapeCast t x h j ≤ u) ↔ ∀ i, x i ≤ u := by
  unfold shapeCast
  exact ⟨fun hx i => by have := hx ((Shape.reshapeEquiv h).symm i); rwa [Equiv.apply_symm_apply] at this, fun hx j => hx _⟩

/-- A maximum over all elements is at most `u` when each element is. -/
theorem max_all_le {s t : Shape} {axes : List (Fin s.rank)} (x : FVec Ideal s .f32) (h : s.Reduces axes t) (hφ : FKind.Formats .f32)
    (hacc : (0xFF800000#32 : BitVec (FTy.bits .f32)) = FKind.maximumf.neutral .f32 hφ) (ht : ∀ j j' : t.Idx, j = j') (j : t.Idx) (u : EReal) :
    multiReduction .maximumf axes t x 0xFF800000#32 h hφ hacc j ≤ u ↔ ∀ i, x i ≤ u := by
  rw [multiReduction_maximumf_eq_fold, Finset.filter_true_of_mem (fun i _ => ht _ _), lowest]
  exact Finset.fold_max_le (s := Finset.univ) (f := x) (b := (⊥ : EReal)) u |>.trans (by simp)

/-- The same of the one element that a program takes out of the maximum. -/
theorem max_elem_le {s t t' : Shape} {axes : List (Fin s.rank)} (x : FVec Ideal s .f32) (h : s.Reduces axes t) (hφ : FKind.Formats .f32)
    (hacc : (0xFF800000#32 : BitVec (FTy.bits .f32)) = FKind.maximumf.neutral .f32 hφ) (ht : ∀ j j' : t.Idx, j = j') (hc : t.ShapeCasts t')
    (pos) (hp) (u : EReal) :
    (extractAt pos (shapeCast t' (multiReduction .maximumf axes t x 0xFF800000#32 h hφ hacc) hc) hp : EReal) ≤ u ↔ ∀ i, x i ≤ u := by
  unfold extractAt shapeCast
  exact max_all_le x h hφ hacc ht _ u

theorem smax_le (a b : Ideal .f32) (u : EReal) : (Scalar.maximumf a b : EReal) ≤ u ↔ (a : EReal) ≤ u ∧ (b : EReal) ≤ u := max_le_iff

theorem vmax_le {S : Shape} (v : FVec Ideal S .f32) (e : Ideal .f32) (y) (u : EReal) :
    (maximumf v (broadcast S e) y : EReal) ≤ u ↔ (v y : EReal) ≤ u ∧ (e : EReal) ≤ u := max_le_iff

theorem absf_le {S : Shape} (v : FVec Ideal S .f32) (u : EReal) : (∀ i, (absf v i : EReal) ≤ u) ↔ ∀ i, mag (v i) ≤ u := Iff.rfl

theorem truncf_at {S : Shape} (v : FVec Ideal S .f32) (h) (z) : (truncf .bf16 v h z : EReal) = v z := rfl

theorem sdiv (a b : Ideal .f32) : (Scalar.divf a b : EReal) = Ideal.div a b := rfl

theorem one_idx {n : ℕ} {d : Fin n → ℕ} (hd : ∀ a, d a = 1) (j j' : (⟨n, d⟩ : Shape).Idx) : j = j' := by
  funext a
  apply Fin.ext
  have h1 : (j a).val < d a := (j a).isLt
  have h2 : (j' a).val < d a := (j' a).isLt
  rw [hd a] at h1 h2
  omega

section
variable (X : Dev nD → Vec Ideal S512x4096 .bf16) (Wt : Dev nD → Vec Ideal S4096x8192 .bf16) (c : Dev nD)

/-- The product of device `d`'s rows and column block `k`. -/
def prodB (d : Dev nD) (k : ℕ) : Vec Ideal S512x512 .f32 := k0_pay9 (X d) (wb Wt d k)

theorem pay10_le (v : Vec Ideal S8x128 .f32) (k : ℕ) (u : EReal) (y) :
    k0_pay10 (X c) (wb Wt c k) v y ≤ u ↔ v y ≤ u ∧ ∀ r, mag (prodB X Wt c k r) ≤ u := by
  unfold k0_pay10
  simp only []
  rw [shapeCast_self]
  refine (vmax_le _ _ _ u).trans (and_congr Iff.rfl ?_)
  refine (max_elem_le _ _ _ _ (one_idx (by decide)) _ _ _ u).trans ?_
  exact (shapeCast_le _ _ u).trans (absf_le _ u)

theorem accAt_le (n : ℕ) (u : EReal) (y) : accAt X Wt c n y ≤ u ↔ 0 ≤ u ∧ ∀ j, j < n → ∀ r, mag (prodB X Wt c (itemBlk c j) r) ≤ u := by
  induction n with
  | zero =>
    have e : accAt X Wt c 0 y = (0 : EReal) := by
      show k0_pay7 (F := Ideal) y = 0
      unfold k0_pay7
      rw [shapeCast_self]
      exact Ideal.ofBits_zero_f32
    rw [e]
    exact ⟨fun h => ⟨h, fun j hj => absurd hj (Nat.not_lt_zero _)⟩, fun h => h.1⟩
  | succ n ih =>
    show k0_pay10 (X c) (wb Wt c (itemBlk c n)) (accAt X Wt c n) y ≤ u ↔ _
    rw [pay10_le, ih]
    constructor
    · rintro ⟨⟨h0, h⟩, h'⟩
      refine ⟨h0, fun j hj => ?_⟩
      rcases Nat.lt_succ_iff_lt_or_eq.mp hj with hj | rfl
      · exact h j hj
      · exact h'
    · rintro ⟨h0, h⟩
      exact ⟨⟨h0, fun j hj => h j (by omega)⟩, h n (by omega)⟩

theorem itemBlk_lt (j : ℕ) : itemBlk c j < 16 := by
  unfold itemBlk
  have h : (sh c (j / 2 + 1)).val < 8 := (sh c (j / 2 + 1)).isLt
  omega

/-- Every column block is one of the sixteen items. -/
theorem itemBlk_onto : ∀ c : Dev nD, ∀ k : Fin 16, ∃ j : Fin 16, itemBlk c j.val = k.val := by decide

theorem accAt_full (u : EReal) (y) : accAt X Wt c 16 y ≤ u ↔ 0 ≤ u ∧ ∀ k, k < 16 → ∀ r, mag (prodB X Wt c k r) ≤ u := by
  rw [accAt_le]
  refine and_congr Iff.rfl ⟨fun h k hk => ?_, fun h j _ => h _ (itemBlk_lt c j)⟩
  obtain ⟨j, hj⟩ := itemBlk_onto c ⟨k, hk⟩
  have := h j.val j.isLt
  rwa [hj] at this

/-- The largest magnitude, as device `c` finds it. -/
def amaxOf : EReal := k0_pay15 (amaxBuf X Wt c) (accAt X Wt c 16)

theorem amaxOf_le (u : EReal) : amaxOf X Wt c ≤ u ↔ (∀ y, amaxBuf X Wt c y ≤ u) ∧ ∀ y, accAt X Wt c 16 y ≤ u := by
  unfold amaxOf k0_pay15
  simp only []
  refine (smax_le _ _ u).trans (and_congr ?_ ?_)
  · exact (max_elem_le _ _ _ _ (one_idx (by decide)) _ _ _ u).trans (shapeCast_le _ _ u)
  · exact (max_elem_le _ _ _ _ (one_idx (by decide)) _ _ _ u).trans (shapeCast_le _ _ u)

theorem amax_bound (u : EReal) : amaxOf X Wt c ≤ u ↔ ∀ d : Dev nD, ∀ k, k < 16 → ∀ r, mag (prodB X Wt d k r) ≤ u := by
  rw [amaxOf_le]
  constructor
  · rintro ⟨h1, h2⟩ d
    by_cases hd : d = c
    · subst hd
      exact ((accAt_full X Wt d u (fun | 0 => (0 : Fin 8) | 1 => (0 : Fin 128))).mp (h2 _)).2
    · have := h1 (fun | 0 => d | 1 => (0 : Fin 8) | 2 => (0 : Fin 128))
      unfold amaxBuf at this
      rw [if_neg (fun e => hd (Fin.ext e))] at this
      have e : dv d.val = d := Fin.ext (Nat.mod_eq_of_lt d.isLt)
      have h := ((accAt_full X Wt _ u _).mp this).2
      intro k hk r
      have h' := h k hk r
      exact (congrArg (fun z => mag (prodB X Wt z k r) ≤ u) e).mp h'
  · intro h
    have h0 : 0 ≤ u := (mag_nonneg _).trans (h c 0 (by decide) (fun | 0 => (0 : Fin 512) | 1 => (0 : Fin 512)))
    have ha : ∀ d y, accAt X Wt d 16 y ≤ u := fun d y => (accAt_full X Wt d u y).mpr ⟨h0, h d⟩
    refine ⟨fun y => ?_, ha c⟩
    unfold amaxBuf
    split
    · unfold k0_pay8
      rw [shapeCast_self]
      exact le_of_eq_of_le Ideal.ofBits_zero_f32 h0
    · exact ha _ _

theorem scl_eq : scl X Wt c = Ideal.div (amaxOf X Wt c) top8 := by
  unfold scl k0_pay16 amaxOf top8
  rfl

theorem inv_eq : inv X Wt c = Ideal.div top8 (amaxOf X Wt c) := by
  unfold inv k0_pay17 amaxOf
  exact sdiv _ _

theorem pay20_at (s i : EReal) (v : Vec Ideal S1x512x512 .bf16) (z) :
    k0_pay20 (F := Ideal) s i v z = clip8 ((shapeCast S512x512 v shapeCasts_S1x512x512_S512x512 z : EReal) * i) * s := by
  unfold k0_pay20 clip8 top8 bot8
  rfl

theorem ybk_at (d : Dev nD) (k : ℕ) (z) : (shapeCast S512x512 (ybk X Wt d k) shapeCasts_S1x512x512_S512x512 z : EReal) = prodB X Wt d k z := by
  unfold ybk k0_pay1
  simp only []
  rw [shapeCast_self, shapeCast_shapeCast]
  unfold k0_pay11 prodB
  exact truncf_at _ _ _

/-- What the result holds at an index. -/
theorem outBuf_at (z) : outBuf X Wt c z = quant8 (amaxOf X Wt c) (prodB X Wt (dv (blkOf z / 2)) (2 * c.val + blkOf z % 2) (inBlk z)) := by
  rw [← quant8_by_inverse, ← ybk_at, ← scl_eq, ← inv_eq]
  exact pay20_at _ _ _ _

end

end Cert.KernelIdeal.A2A

end
-- ==== Proof.Blocks.lean ====
/- The blocks of the devices are the blocks of one product of the whole matrices. -/
module

public import proofs.«01_k».proof.Proof.Amax
public import Idealize.ShloMosaic.Lib.Layout
public import Idealize.ShloMosaic.Lib.ValueIdxCore

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx
open scoped BigOperators

section
variable (Xg : (⟨2, ![4096, 4096]⟩ : Shape).Idx → EReal) (Wg : (⟨2, ![4096, 8192]⟩ : Shape).Idx → EReal)

/-- The product of the whole matrices. -/
def whole (z : (⟨2, ![4096, 8192]⟩ : Shape).Idx) : EReal := ∑ k : Fin 4096, Xg (ix2 (z 0) k) * Wg (ix2 k (z 1))

/-- The rows of each device, and the weight on each. -/
def rowsOf (d : Dev nD) : Vec Ideal S512x4096 .bf16 := Layout.block ⟨2, ![512, 4096]⟩ ⟨2, ![4096, 4096]⟩ 0 8 d Xg
def wtOf (_ : Dev nD) : Vec Ideal S4096x8192 .bf16 := Wg

theorem plain_dot : dot_S512x4096_S4096x512_S512x512_1_0_0_1_n_n = DotDims.plain 512 4096 512 := rfl

theorem prodB_sum (X : Dev nD → Vec Ideal S512x4096 .bf16) (Wt : Dev nD → Vec Ideal S4096x8192 .bf16) (d : Dev nD) (k : ℕ) (a b : Fin 512) :
    (prodB X Wt d k (ix2 a b) : EReal) = ∑ κ : Fin 4096, (X d (ix2 a κ) : EReal) * (wblk Wt d k (ix2 κ b) : EReal) := by
  unfold prodB wb k0_pay3 k0_pay9
  simp only []
  rw [shapeCast_self, shapeCast_self, shapeCast_self, plain_dot]
  refine (Ideal.matmul_plain_apply none (X d) (wblk Wt d k) (constant S512x512 .f32 0x00000000#32) a b).trans ?_
  rw [show (constant (F := Ideal) S512x512 .f32 0x00000000#32 (ix2 a b) : EReal) = 0 from Ideal.ofBits_zero_f32, zero_add]

/-- A device's block of the product is that block of the whole product. -/
theorem prodB_whole (d : Dev nD) (k : ℕ) (hk : k < 16) (r) (z : (⟨2, ![4096, 8192]⟩ : Shape).Idx)
    (h0 : (z 0).val = d.val * 512 + (r 0).val) (h1 : (z 1).val = k * 512 + (r 1).val) :
    prodB (rowsOf Xg) (wtOf Wg) d k r = whole Xg Wg z := by
  obtain ⟨a, b, rfl⟩ : ∃ a b : Fin 512, r = ix2 a b := ⟨r 0, r 1, eq_ix2 r⟩
  rw [prodB_sum]
  unfold whole
  refine Finset.sum_congr rfl fun κ _ => ?_
  refine congrArg₂ (· * ·) ?_ ?_
  · refine congrArg Xg (funext fun a => Fin.ext ?_)
    match a with
    | ⟨0, _⟩ => exact h0.symm
    | ⟨1, _⟩ => rfl
  · refine congrArg Wg (funext fun a => Fin.ext ?_)
    match a with
    | ⟨0, _⟩ => rfl
    | ⟨1, _⟩ =>
      have hr : b.val < 512 := b.isLt
      have h1 : (z 1).val = k * 512 + b.val := h1
      have hl : k * 512 + b.val < 8192 := by omega
      exact (Nat.mod_eq_of_lt hl).trans h1.symm

/-- So the largest magnitude is that of the whole product. -/
theorem amaxOf_whole (c : Dev nD) (A : EReal) (hA : ∀ u, A ≤ u ↔ ∀ z, mag (whole Xg Wg z) ≤ u) : amaxOf (rowsOf Xg) (wtOf Wg) c = A := by
  refine eq_of_forall_ge_iff fun u => ?_
  rw [amax_bound, hA]
  constructor
  · intro h z
    have hz0 : (z 0).val < 4096 := (z 0).isLt
    have hz1 : (z 1).val < 8192 := (z 1).isLt
    have hd : (z 0).val / 512 < 8 := by omega
    have := h ⟨(z 0).val / 512, hd⟩ ((z 1).val / 512) (by omega)
      (ix2 (⟨(z 0).val % 512, by omega⟩ : Fin 512) (⟨(z 1).val % 512, by omega⟩ : Fin 512))
    rwa [prodB_whole Xg Wg _ _ (by omega) _ z (Nat.div_add_mod' _ _).symm (Nat.div_add_mod' _ _).symm] at this
  · intro h d k hk r
    have hd : d.val < 8 := d.isLt
    have hr0 : (r 0).val < 512 := (r 0).isLt
    have hr1 : (r 1).val < 512 := (r 1).isLt
    have h0 : d.val * 512 + (r 0).val < 4096 := by omega
    have h1 : k * 512 + (r 1).val < 8192 := by omega
    rw [prodB_whole Xg Wg d k hk r (ix2 (⟨_, h0⟩ : Fin 4096) (⟨_, h1⟩ : Fin 8192)) rfl rfl]
    exact h _

/-- Each device ends with its columns of the quantised product. -/
theorem outBuf_whole (c : Dev nD) (A : EReal) (hA : ∀ u, A ≤ u ↔ ∀ z, mag (whole Xg Wg z) ≤ u) :
    outBuf (rowsOf Xg) (wtOf Wg) c = (Layout.block ⟨2, ![4096, 1024]⟩ ⟨2, ![4096, 8192]⟩ 1 8 c (fun z => quant8 A (whole Xg Wg z)) : S4096x1024.Idx → EReal) := by
  funext z
  rw [outBuf_at, amaxOf_whole Xg Wg c A hA]
  refine congrArg (quant8 A) ?_
  have hz0 : (z 0).val < 4096 := (z 0).isLt
  have hz1 : (z 1).val < 1024 := (z 1).isLt
  have hc : c.val < 8 := c.isLt
  have eb : blkOf z = 2 * ((z 0).val / 512) + (z 1).val / 512 := rfl
  refine prodB_whole Xg Wg _ _ (by omega) _ _ ?_ ?_
  · show (z 0).val = (blkOf z / 2) % 8 * 512 + (z 0).val % 512
    omega
  · show c.val * 1024 + (z 1).val = (2 * c.val + blkOf z % 2) * 512 + (z 1).val % 512
    omega

end

end Cert.KernelIdeal.A2A

end
-- ==== Proof.RefRun.lean ====
/- The reference's run: the quantised product of the whole matrices. -/
module

public import proofs.«01_k».proof.Proof.Gen.ReferenceIdeal.Value
public import proofs.«01_k».proof.Proof.Blocks

@[expose] public section

noncomputable section

namespace Cert.ReferenceIdeal.A2A

open Cert.ReferenceIdeal Cert.ReferenceIdeal.Gen Cert.ReferenceIdeal.Value
open Idealize.ShloMosaic Idealize.ShloMosaic.TcCoe Idealize.ShloMosaic.ValueIdx Idealize.SL.Sem
open Cert.KernelIdeal.A2A (quant8 mag whole top8 clip8 mag_nonneg lowest quant8_by_inverse)

variable (m : (ℓ : Loc nD τ sig) → Buf (Elt Ideal) ℓ) (ρ : Dev nD → PrngReg) (c : Dev nD)

def argX : S4096x4096.Idx → EReal := m ((c : Thread nD τ).loc main_arg0)
def argW : S4096x8192.Idx → EReal := m ((c : Thread nD τ).loc main_arg1)

/-- The product as the reference takes it. -/
def prod : Vec Ideal S4096x8192 .f32 :=
  Host.dotGeneral (F := Ideal) (φ₁ := .bf16) (φ₂ := .bf16) dot_S4096x4096_S4096x8192_S4096x8192_1_0_0_1_n_n none (argX m c) (argW m c)

/-- Its largest magnitude. -/
def largest : Vec Ideal S_ .f32 :=
  Host.reduce (FloatOps.maximumf (F := Ideal) (φ := .f32)) (Host.absf (F := Ideal) (s := S4096x8192) (φ := .f32) (prod m c)) (constant (F := Ideal) S_ .f32 0xFF800000#32) reducesTo_S4096x8192_S_d0_1 h_S_

/-- The scale. -/
def scale : Vec Ideal S1x1 .f32 := shapeCast S1x1 (Host.divf (F := Ideal) (s := S_) (φ := .f32) (largest m c) (constant (F := Ideal) S_ .f32 0x43E00000#32)) shapeCasts_S_S1x1

theorem V_prod : V m c main_v0 = prod m c := by
  show StableHlo.after hostOps0 _ _ = _
  after_results
  rfl

theorem V_scale : V m c main_v4 = scale m c := by
  show StableHlo.after hostOps0 _ _ = _
  after_results
  rfl

theorem place0 (t : Fin cfg0.N) (y : S4096x8192.Idx) : ((cfg0.win 0).rect t).emb y = y := by
  funext (a : Fin 2)
  refine Fin.ext ((Pipeline.Window.rect_emb_val_off (cfg0.win 0) t y a).trans ?_)
  match a with
  | 0 => show 0 * 4096 + (y 0).val = (y 0).val; omega
  | 1 => show 0 * 8192 + (y 1).val = (y 1).val; omega

theorem place1 (t : Fin cfg0.N) (y : S1x1.Idx) : ((cfg0.win 1).rect t).emb y = y := by
  funext (a : Fin 2)
  refine Fin.ext ((Pipeline.Window.rect_emb_val_off (cfg0.win 1) t y a).trans ?_)
  match a with
  | 0 => show 0 * 1 + (y 0).val = (y 0).val; omega
  | 1 => show 0 * 1 + (y 1).val = (y 1).val; omega

theorem place2 (t : Fin cfg0.N) (y : S4096x8192.Idx) : ((cfg0.win 2).rect t).emb y = y := by
  funext (a : Fin 2)
  refine Fin.ext ((Pipeline.Window.rect_emb_val_off (cfg0.win 2) t y a).trans ?_)
  match a with
  | 0 => show 0 * 4096 + (y 0).val = (y 0).val; omega
  | 1 => show 0 * 8192 + (y 1).val = (y 1).val; omega

theorem blk0 (t : Fin cfg0.N) : iblk m c 0 t = prod m c := by
  refine Eq.trans ?_ (V_prod m c)
  funext y
  exact congrArg (V m c main_v0) (place0 t y)

theorem blk1 (t : Fin cfg0.N) : iblk m c 1 t = scale m c := by
  refine Eq.trans ?_ (V_scale m c)
  funext y
  exact congrArg (V m c main_v4) (place1 t y)

theorem all_rect (P : Vec Ideal S4096x8192 .f32) : View.ld P r0_1 = P := by
  funext y
  refine congrArg P (funext fun a => Fin.ext ?_)
  match a with
  | ⟨0, _⟩ => show 0 + 1 * (y 0).val = (y 0).val; omega
  | ⟨1, _⟩ => show 0 + 1 * (y 1).val = (y 1).val; omega

theorem one_rect (P : Vec Ideal S1x1 .f32) : View.ld P r0_0 = P := by
  funext y
  refine congrArg P (funext fun a => Fin.ext ?_)
  match a with
  | ⟨0, _⟩ => show 0 + 1 * (y 0).val = (y 0).val; omega
  | ⟨1, _⟩ => show 0 + 1 * (y 1).val = (y 1).val; omega

theorem flushed_place (t : Fin cfg0.N) (i : S4096x8192.Idx) : i ∈ ((cfg0.win 2).blk t).view.set := by
  have h := View.emb_mem_set ((cfg0.win 2).blk t).view i
  have e : ((cfg0.win 2).blk t).view.emb i = i := place2 t i
  rwa [e] at h

theorem first_step : 0 < cfg0.N := by decide

/-- What the region leaves. -/
theorem result : (dats m 0 c).arrAt 2 cfg0.N = E2 (prod m c) (scale m c) := by
  refine (dats m 0 c).arrAt_eq_of_cover 2 (E2 (prod m c) (scale m c)) (fun t _ => ?_) fun i => ⟨⟨0, first_step⟩, flush0_2 _, flushed_place _ i⟩
  rw [flushed2, blk0, blk1]
  unfold out0_2
  rw [all_rect, one_rect]
  funext y
  exact (canon2_eq (prod m c) (scale m c) _).trans (congrArg (E2 (prod m c) (scale m c)) (place2 t y).symm)

theorem plain_dot : dot_S4096x4096_S4096x8192_S4096x8192_1_0_0_1_n_n = DotDims.plain 4096 4096 8192 := rfl

theorem prod_at (z : S4096x8192.Idx) : prod m c z = whole (argX m c) (argW m c) z := by
  obtain ⟨a, b, rfl⟩ : ∃ (a : Fin 4096) (b : Fin 8192), z = ix2 a b := ⟨z 0, z 1, eq_ix2 z⟩
  unfold prod
  rw [plain_dot, ← matmul_zero_eq_dotGeneral]
  refine (Ideal.matmul_plain_apply (φ₁ := .bf16) (φ₂ := .bf16) none (argX m c) (argW m c) (constant S4096x8192 .f32 0x00000000#32) a b).trans ?_
  rw [show (constant (F := Ideal) S4096x8192 .f32 0x00000000#32 (ix2 a b) : EReal) = 0 from Ideal.ofBits_zero_f32, zero_add]
  rfl

/-- The one index of the scalar shape. -/
def pt : S_.Idx := Shape.Idx.first h_S_

theorem pt_all (j : S_.Idx) : j = pt := Cert.KernelIdeal.A2A.one_idx (fun a => a.elim0) j pt

theorem absf_at (v : Vec Ideal S4096x8192 .f32) (z) : (Host.absf (F := Ideal) (φ := .f32) v z : EReal) = mag (v z) := rfl

/-- The largest magnitude bounds each element of the whole product, and nothing more. -/
theorem largest_le (u : EReal) : (largest m c pt : EReal) ≤ u ↔ ∀ z, mag (whole (argX m c) (argW m c) z) ≤ u := by
  unfold largest
  rw [Host.reduce_eq_fold, Finset.filter_true_of_mem (fun i _ => (pt_all _).trans (pt_all _).symm)]
  refine (Finset.fold_max_le (s := Finset.univ) (f := Host.absf (F := Ideal) (φ := .f32) (prod m c)) (b := _) u).trans ?_
  constructor
  · intro h z
    have := h.2 z (Finset.mem_univ _)
    rwa [absf_at, prod_at] at this
  · intro h
    refine ⟨le_of_eq_of_le lowest bot_le, fun z _ => ?_⟩
    rw [absf_at, prod_at]
    exact h z

theorem scale_at (j : S1x1.Idx) : (scale m c j : EReal) = Ideal.div (largest m c pt) top8 := by
  unfold scale shapeCast
  rw [pt_all ((Shape.reshapeEquiv shapeCasts_S_S1x1) j)]
  rfl

theorem quant_at (P : Vec Ideal S4096x8192 .f32) (s : Vec Ideal S1x1 .f32) (z : S4096x8192.Idx) :
    (E2 P s z : EReal) = clip8 (Ideal.div (P (ix2_0 z)) (s (ix2_1 z))) * s (ix2_2 z) := rfl

/-- The reference's result, element by element. -/
theorem result_at (z : S4096x8192.Idx) : (E2 (prod m c) (scale m c) z : EReal) = quant8 (largest m c pt) (whole (argX m c) (argW m c) z) := by
  rw [quant_at, scale_at, show (ix2_0 z) = z from ?_, prod_at]
  · rfl
  · funext a
    match a with
    | ⟨0, _⟩ => rfl
    | ⟨1, _⟩ => rfl

/-- The reference's run. -/
theorem run_value : θ_run (defs (F := Ideal)) (onTc (τ := τ) (main (F := Ideal))) ⟨m, fun _ => 0, ρ⟩ fun r => ∀ c : Dev nD,
      r.2.mem ((c : Thread nD τ).loc main_v5) = (fun z => quant8 (largest m c pt) (whole (argX m c) (argW m c) z) : S4096x8192.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((result m c).trans (funext fun z => result_at m c z)), (h c).2⟩) (run_blocks m ρ)

end Cert.ReferenceIdeal.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Same
public import proofs.«01_k».proof.Proof.Gen.ReferenceIdeal.Value
public import proofs.«01_k».proof.Proof.RefRun
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.A2A.run_main (F := Ideal) m ρ)

theorem frame_kernel : Cert.quiescent_Kernel (hKernel := Cert.Kernel.Gen.facts) := fun m ρ _ =>
  Cert.KernelIdeal.A2A.run_of_same Cert.KernelIdeal.A2A.defs_same Cert.KernelIdeal.A2A.main_same
    ((θ_run Cert.KernelIdeal.defs _ _).mono (fun _ h => ⟨fun c => ⟨(h.1 c).1, (h.1 c).2.1⟩, h.2⟩)
      (Cert.KernelIdeal.A2A.run_main (F := Bits) m ρ))

theorem frame_reference : Cert.quiescent_ReferenceIdeal (hReferenceIdeal := Cert.ReferenceIdeal.Gen.facts) := fun m ρ _ =>
  Cert.ReferenceIdeal.Gen.frame m ρ

open Cert.KernelIdeal.A2A Cert.ReferenceIdeal.A2A in
theorem value : Cert.algebraic_KernelIdeal_ReferenceIdeal (hKernelIdeal := Cert.KernelIdeal.Gen.facts) (hReferenceIdeal := Cert.ReferenceIdeal.Gen.facts) := by
  intro m g m' g' _ hin
  have hx : (fun d : Dev Cert.KernelIdeal.nD => m ((d.tc : Thread Cert.KernelIdeal.nD Cert.KernelIdeal.τ).loc Cert.KernelIdeal.main_arg0)) = rowsOf (argX m' 0) :=
    funext fun d => (hin d).1
  have hw : (fun d : Dev Cert.KernelIdeal.nD => m ((d.tc : Thread Cert.KernelIdeal.nD Cert.KernelIdeal.τ).loc Cert.KernelIdeal.main_arg1)) = wtOf (argW m' 0) :=
    funext fun d => (hin d).2
  refine ⟨fun z => quant8 (largest m' 0 pt) (whole (argX m' 0) (argW m' 0) z), ?_, ?_⟩
  · refine (θ_run Cert.KernelIdeal.defs _ _).mono (fun r h c => ?_) (Cert.KernelIdeal.A2A.run_main (F := Ideal) m g)
    obtain ⟨h0, h1, h2⟩ := h.1 c
    rw [hx, hw, outBuf_whole _ _ c _ (largest_le m' 0)] at h2
    exact ⟨h2, h0, h1⟩
  · exact (θ_run Cert.ReferenceIdeal.defs _ _).mono (fun r h => h 0) (run_value m' g')

theorem claim : Cert.Claim := ⟨Cert.Kernel.Gen.facts, Cert.KernelIdeal.Gen.facts, Cert.ReferenceIdeal.Gen.facts,
  frame_kernel, frame_ideal, frame_reference, trivial, value⟩

end Cert.Proof

end
